-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastReference (m : (ℓ : Loc Cert.CastReference.nD Cert.CastReference.τ Cert.CastReference.sig) → Buf (Elt Bits) ℓ) : Prop :=
  True

def Pre_CastReferenceIdeal (m : (ℓ : Loc Cert.CastReferenceIdeal.nD Cert.CastReferenceIdeal.τ Cert.CastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastReference [hCastReference : Cert.CastReference.Facts] : Prop :=
  ∀ (m : (ℓ : Loc Cert.CastReference.nD Cert.CastReference.τ Cert.CastReference.sig) → Buf (Elt Bits) ℓ) (g : Dev Cert.CastReference.nD → PrngReg), Pre_CastReference m →
    θ_run (Cert.CastReference.defs (F := Bits)) (onTc (τ := Cert.CastReference.τ) (Cert.CastReference.main (F := Bits))) ⟨m, fun _ => 0, g⟩ (fun r => (∀ c : Dev Cert.CastReference.nD,
      r.2.mem ((c.tc : Thread Cert.CastReference.nD Cert.CastReference.τ).loc Cert.CastReference.main_arg0) = m ((c.tc : Thread Cert.CastReference.nD Cert.CastReference.τ).loc Cert.CastReference.main_arg0))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_v20) = v1 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v26) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)) (v2 : (c : Dev Cert.InprojIdeal.nD) → Buf (Elt Ideal) ((c.tc : Thread Cert.InprojIdeal.nD Cert.InprojIdeal.τ).loc Cert.InprojIdeal.main_v12_2)) (v3 : (c : Dev Cert.InprojIdeal.nD) → Buf (Elt Ideal) ((c.tc : Thread Cert.InprojIdeal.nD Cert.InprojIdeal.τ).loc Cert.InprojIdeal.main_v12_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_v12_2) = v2 c
          ∧ r.2.mem ((c.tc : Thread Cert.InprojIdeal.nD Cert.InprojIdeal.τ).loc Cert.InprojIdeal.main_v12_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v32) = v0 c
          ∧ r.2.mem ((c.tc : Thread Cert.InprojReferenceIdeal.nD Cert.InprojReferenceIdeal.τ).loc Cert.InprojReferenceIdeal.main_v33) = v1 c
          ∧ r.2.mem ((c.tc : Thread Cert.InprojReferenceIdeal.nD Cert.InprojReferenceIdeal.τ).loc Cert.InprojReferenceIdeal.main_v31) = v2 c
          ∧ r.2.mem ((c.tc : Thread Cert.InprojReferenceIdeal.nD Cert.InprojReferenceIdeal.τ).loc Cert.InprojReferenceIdeal.main_v35) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v12)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v12) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v42) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6))

def preserves_Lru_LruIdeal : Prop :=
  True

def preserves_Cast_CastIdeal : Prop :=
  True

def bitexact_Cast_CastReference [hCast : Cert.Cast.Facts] [hCastReference : Cert.CastReference.Facts] : Prop :=
  ∀ (m : (ℓ : Loc Cert.Cast.nD Cert.Cast.τ Cert.Cast.sig) → Buf (Elt Bits) ℓ) (g : Dev Cert.Cast.nD → PrngReg)
    (m' : (ℓ : Loc Cert.CastReference.nD Cert.CastReference.τ Cert.CastReference.sig) → Buf (Elt Bits) ℓ) (g' : Dev Cert.CastReference.nD → PrngReg), Pre_Cast m →
    (∀ c : Dev Cert.Cast.nD,
      m' ((c.tc : Thread Cert.CastReference.nD Cert.CastReference.τ).loc Cert.CastReference.main_arg0) = m ((c.tc : Thread Cert.Cast.nD Cert.Cast.τ).loc Cert.Cast.main_arg0)) →
    ∃ (v0 : (c : Dev Cert.Cast.nD) → Buf (Elt Bits) ((c.tc : Thread Cert.Cast.nD Cert.Cast.τ).loc Cert.Cast.main_v0)),
      θ_run (Cert.Cast.defs (F := Bits)) (onTc (τ := Cert.Cast.τ) (Cert.Cast.main (F := Bits))) ⟨m, fun _ => 0, g⟩ (fun r => ∀ c : Dev Cert.Cast.nD,
          r.2.mem ((c.tc : Thread Cert.Cast.nD Cert.Cast.τ).loc Cert.Cast.main_v0) = v0 c
          ∧ r.2.mem ((c.tc : Thread Cert.Cast.nD Cert.Cast.τ).loc Cert.Cast.main_arg0) = m ((c.tc : Thread Cert.Cast.nD Cert.Cast.τ).loc Cert.Cast.main_arg0))
      ∧ θ_run (Cert.CastReference.defs (F := Bits)) (onTc (τ := Cert.CastReference.τ) (Cert.CastReference.main (F := Bits))) ⟨m', fun _ => 0, g'⟩ (fun r => ∀ c : Dev Cert.CastReference.nD,
          r.2.mem ((c.tc : Thread Cert.CastReference.nD Cert.CastReference.τ).loc Cert.CastReference.main_v2) = v0 c
          ∧ r.2.mem ((c.tc : Thread Cert.CastReference.nD Cert.CastReference.τ).loc Cert.CastReference.main_arg0) = m' ((c.tc : Thread Cert.CastReference.nD Cert.CastReference.τ).loc Cert.CastReference.main_arg0))

def algebraic_CastIdeal_CastReferenceIdeal [hCastIdeal : Cert.CastIdeal.Facts] [hCastReferenceIdeal : Cert.CastReferenceIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastIdeal m →
    (∀ c : Dev Cert.CastIdeal.nD,
      m' ((c.tc : Thread Cert.CastReferenceIdeal.nD Cert.CastReferenceIdeal.τ).loc Cert.CastReferenceIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v2) = v0 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0))

def Claim : Prop :=
  ∃ (hKernel : Cert.Kernel.Facts) (hKernelIdeal : Cert.KernelIdeal.Facts) (hReference : Cert.Reference.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hLru : Cert.Lru.Facts) (hLruIdeal : Cert.LruIdeal.Facts) (hCast : Cert.Cast.Facts) (hCastIdeal : Cert.CastIdeal.Facts) (hCastReference : Cert.CastReference.Facts) (hCastReferenceIdeal : Cert.CastReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Lru (hLru := hLru)
    ∧ quiescent_LruIdeal (hLruIdeal := hLruIdeal)
    ∧ quiescent_Cast (hCast := hCast)
    ∧ quiescent_CastIdeal (hCastIdeal := hCastIdeal)
    ∧ quiescent_CastReference (hCastReference := hCastReference)
    ∧ quiescent_CastReferenceIdeal (hCastReferenceIdeal := hCastReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Lru_LruIdeal
    ∧ preserves_Cast_CastIdeal
    ∧ bitexact_Cast_CastReference (hCast := hCast) (hCastReference := hCastReference)
    ∧ algebraic_CastIdeal_CastReferenceIdeal (hCastIdeal := hCastIdeal) (hCastReferenceIdeal := hCastReferenceIdeal)
-- ==== Kernel.lean ====
abbrev S2x2048x6152 : Shape := ⟨3, ![2, 2048, 6152]⟩
abbrev S2x6152x2048 : Shape := ⟨3, ![2, 6152, 2048]⟩
abbrev S12304x2048 : Shape := ⟨2, ![12304, 2048]⟩
abbrev S2048x6144 : Shape := ⟨2, ![2048, 6144]⟩
abbrev S2048x128 : Shape := ⟨2, ![2048, 128]⟩
abbrev S512x2048 : Shape := ⟨2, ![512, 2048]⟩
abbrev S8x2048 : Shape := ⟨2, ![8, 2048]⟩
abbrev S2048x512 : Shape := ⟨2, ![2048, 512]⟩
abbrev S120x2048 : Shape := ⟨2, ![120, 2048]⟩
abbrev S128x2048 : Shape := ⟨2, ![128, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x6152, .f32⟩
  | .hbm, ⟨1, _⟩ => ⟨S2x6152x2048, .f32⟩
  | .hbm, ⟨2, _⟩ => ⟨S12304x2048, .f32⟩
  | .hbm, ⟨3, _⟩ => ⟨S2048x6144, .bf16⟩
  | .hbm, ⟨4, _⟩ => ⟨S2048x128, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | _, _ => ⟨S2x2048x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![12], ![false]⟩

def k0_mult1 (i : grid0.Coords) : BitVec 32 :=
  let c6152_i32 : BitVec 32 := 6152#32
  let arg0 : BitVec 32 := BitVec.ofNat 32 (i 0).val
  let c11_i32 : BitVec 32 := 11#32
  let v20 : BitVec 1 := Scalar.cmpi .eq arg0 c11_i32
  let c5640_i32 : BitVec 32 := 5640#32
  let c10_i32 : BitVec 32 := 10#32
  let v18 : BitVec 1 := Scalar.cmpi .eq arg0 c10_i32
  let c5128_i32 : BitVec 32 := 5128#32
  let c9_i32 : BitVec 32 := 9#32
  let v16 : BitVec 1 := Scalar.cmpi .eq arg0 c9_i32
  let c4616_i32 : BitVec 32 := 4616#32
  let c8_i32 : BitVec 32 := 8#32
  let v14 : BitVec 1 := Scalar.cmpi .eq arg0 c8_i32
  let c2048_i32 : BitVec 32 := 2048#32
  let c7_i32 : BitVec 32 := 7#32
  let v12 : BitVec 1 := Scalar.cmpi .eq arg0 c7_i32
  let c1536_i32 : BitVec 32 := 1536#32
  let c6_i32 : BitVec 32 := 6#32
  let v10 : BitVec 1 := Scalar.cmpi .eq arg0 c6_i32
  let c1024_i32 : BitVec 32 := 1024#32
  let c5_i32 : BitVec 32 := 5#32
  let v8 : BitVec 1 := Scalar.cmpi .eq arg0 c5_i32
  let c4104_i32 : BitVec 32 := 4104#32
  let c4_i32 : BitVec 32 := 4#32
  let v6 : BitVec 1 := Scalar.cmpi .eq arg0 c4_i32
  let c3592_i32 : BitVec 32 := 3592#32
  let c3_i32 : BitVec 32 := 3#32
  let v4 : BitVec 1 := Scalar.cmpi .eq arg0 c3_i32
  let c3080_i32 : BitVec 32 := 3080#32
  let c2_i32 : BitVec 32 := 2#32
  let v2 : BitVec 1 := Scalar.cmpi .eq arg0 c2_i32
  let c2560_i32 : BitVec 32 := 2560#32
  let c1_i32 : BitVec 32 := 1#32
  let v0 : BitVec 1 := Scalar.cmpi .eq arg0 c1_i32
  let c512_i32 : BitVec 32 := 512#32
  let c0_i32 : BitVec 32 := 0#32
  let v1 : BitVec 32 := Scalar.select v0 c512_i32 c0_i32
  let v3 : BitVec 32 := Scalar.select v2 c2560_i32 v1
  let v5 : BitVec 32 := Scalar.select v4 c3080_i32 v3
  let v7 : BitVec 32 := Scalar.select v6 c3592_i32 v5
  let v9 : BitVec 32 := Scalar.select v8 c4104_i32 v7
  let v11 : BitVec 32 := Scalar.select v10 c1024_i32 v9
  let v13 : BitVec 32 := Scalar.select v12 c1536_i32 v11
  let v15 : BitVec 32 := Scalar.select v14 c2048_i32 v13
  let v17 : BitVec 32 := Scalar.select v16 c4616_i32 v15
  let v19 : BitVec 32 := Scalar.select v18 c5128_i32 v17
  let v21 : BitVec 32 := Scalar.select v20 c5640_i32 v19
  let v22 : BitVec 32 := Scalar.addi c6152_i32 v21
  v22
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let c1_i32 : BitVec 32 := 1#32
  let v0 : BitVec 1 := Scalar.cmpi .eq arg0 c1_i32
  let c512_i32 : BitVec 32 := 512#32
  let c0_i32 : BitVec 32 := 0#32
  let v1 : BitVec 32 := Scalar.select v0 c512_i32 c0_i32
  let c2_i32 : BitVec 32 := 2#32
  let v2 : BitVec 1 := Scalar.cmpi .eq arg0 c2_i32
  let c2560_i32 : BitVec 32 := 2560#32
  let v3 : BitVec 32 := Scalar.select v2 c2560_i32 v1
  let c3_i32 : BitVec 32 := 3#32
  let v4 : BitVec 1 := Scalar.cmpi .eq arg0 c3_i32
  let c3080_i32 : BitVec 32 := 3080#32
  let v5 : BitVec 32 := Scalar.select v4 c3080_i32 v3
  let c4_i32 : BitVec 32 := 4#32
  let v6 : BitVec 1 := Scalar.cmpi .eq arg0 c4_i32
  let c3592_i32 : BitVec 32 := 3592#32
  let v7 : BitVec 32 := Scalar.select v6 c3592_i32 v5
  let c5_i32 : BitVec 32 := 5#32
  let v8 : BitVec 1 := Scalar.cmpi .eq arg0 c5_i32
  let c4104_i32 : BitVec 32 := 4104#32
  let v9 : BitVec 32 := Scalar.select v8 c4104_i32 v7
  let c6_i32 : BitVec 32 := 6#32
  let v10 : BitVec 1 := Scalar.cmpi .eq arg0 c6_i32
  let c1024_i32 : BitVec 32 := 1024#32
  let v11 : BitVec 32 := Scalar.select v10 c1024_i32 v9
  let c7_i32 : BitVec 32 := 7#32
  let v12 : BitVec 1 := Scalar.cmpi .eq arg0 c7_i32
  let c1536_i32 : BitVec 32 := 1536#32
  let v13 : BitVec 32 := Scalar.select v12 c1536_i32 v11
  let c8_i32 : BitVec 32 := 8#32
  let v14 : BitVec 1 := Scalar.cmpi .eq arg0 c8_i32
  let c2048_i32 : BitVec 32 := 2048#32
  let v15 : BitVec 32 := Scalar.select v14 c2048_i32 v13
  let c9_i32 : BitVec 32 := 9#32
  let v16 : BitVec 1 := Scalar.cmpi .eq arg0 c9_i32
  let c4616_i32 : BitVec 32 := 4616#32
  let v17 : BitVec 32 := Scalar.select v16 c4616_i32 v15
  let c10_i32 : BitVec 32 := 10#32
  let v18 : BitVec 1 := Scalar.cmpi .eq arg0 c10_i32
  let c5128_i32 : BitVec 32 := 5128#32
  let v19 : BitVec 32 := Scalar.select v18 c5128_i32 v17
  let c11_i32 : BitVec 32 := 11#32
  let v20 : BitVec 1 := Scalar.cmpi .eq arg0 c11_i32
  let c5640_i32 : BitVec 32 := 5640#32
  let v21 : BitVec 32 := Scalar.select v20 c5640_i32 v19
  let c6152_i32 : BitVec 32 := 6152#32
  let v22 : BitVec 32 := Scalar.addi c6152_i32 v21
  let v23 : BitVec 32 := v22
  let c0_i32_0 : BitVec 32 := 0#32
  let c0_i32_1 : BitVec 32 := 0#32
  ![v23.toNat, c0_i32_0.toNat]

def cc0_transform_1 (i : grid0.Coords) : Fin 2 → Nat :=
  let arg0 : BitVec 32 := BitVec.ofNat 32 (i 0).val
  let c9224_i32 : BitVec 32 := 9224#32
  let c0_i32 : BitVec 32 := 0#32
  let c0_i32_0 : BitVec 32 := 0#32
  ![c9224_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference.lean ====
abbrev S2x2048x6152 : Shape := ⟨3, ![2, 2048, 6152]⟩
abbrev S1x2048x6152 : Shape := ⟨3, ![1, 2048, 6152]⟩
abbrev S2048x6152 : Shape := ⟨2, ![2048, 6152]⟩
abbrev S2048x512 : Shape := ⟨2, ![2048, 512]⟩
abbrev S2048x4 : Shape := ⟨2, ![2048, 4]⟩
abbrev S2048x6144 : Shape := ⟨2, ![2048, 6144]⟩
abbrev S_ : Shape := ⟨0, ![]⟩
abbrev S2048x120 : Shape := ⟨2, ![2048, 120]⟩
abbrev S2048x128 : Shape := ⟨2, ![2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x6152, .f32⟩
  | .hbm, ⟨1, _⟩ => ⟨S1x2048x6152, .f32⟩
  | .hbm, ⟨2, _⟩ => ⟨S2048x6152, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x4, .f32⟩
  | .hbm, ⟨10, _⟩ => ⟨S2048x4, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x6144, .f32⟩
  | .hbm, ⟨18, _⟩ => ⟨S_, .f32⟩
  | .hbm, ⟨19, _⟩ => ⟨S2048x120, .f32⟩
  | .hbm, ⟨20, _⟩ => ⟨S2048x128, .f32⟩
  | .hbm, ⟨21, _⟩ => ⟨S2048x6144, .bf16⟩
  | .hbm, ⟨22, _⟩ => ⟨S2048x128, .bf16⟩
  | _, _ => ⟨S2x2048x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Ffn.lean ====
abbrev S4x4096x2048 : Shape := ⟨3, ![4, 4096, 2048]⟩
abbrev S2x2048 : Shape := ⟨2, ![2, 2048]⟩
abbrev S2048x5504 : Shape := ⟨2, ![2048, 5504]⟩
abbrev S5504x2048 : Shape := ⟨2, ![5504, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S2048x128 : Shape := ⟨2, ![2048, 128]⟩
abbrev S128x2048 : Shape := ⟨2, ![128, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1x512 : Shape := ⟨2, ![1, 512]⟩
abbrev S512x2048 : Shape := ⟨2, ![512, 2048]⟩

abbrev nBuf : Space → Nat
  | .hbm => 10
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S1024x2048, .f32⟩
  | .local _ .vmem, ⟨28, _⟩ => ⟨S1024x2048, .f32⟩
  | .local _ .vmem, ⟨29, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnReferenceIdeal.lean ====
abbrev S4x4096x2048 : Shape := ⟨3, ![4, 4096, 2048]⟩
abbrev S2x2048 : Shape := ⟨2, ![2, 2048]⟩
abbrev S2048x5504 : Shape := ⟨2, ![2048, 5504]⟩
abbrev S5504x2048 : Shape := ⟨2, ![5504, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S16384x5504 : Shape := ⟨2, ![16384, 5504]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x5504, .f32⟩
  | .hbm, ⟨25, _⟩ => ⟨S2048x5504, .f32⟩
  | .hbm, ⟨26, _⟩ => ⟨S5504x2048, .f32⟩
  | .hbm, ⟨27, _⟩ => ⟨S16384x5504, .f32⟩
  | .hbm, ⟨28, _⟩ => ⟨S16384x5504, .f32⟩
  | .hbm, ⟨29, _⟩ => ⟨S16384x5504, .f32⟩
  | .hbm, ⟨30, _⟩ => ⟨S_, .f32⟩
  | .hbm, ⟨31, _⟩ => ⟨S16384x5504, .f32⟩
  | .hbm, ⟨32, _⟩ => ⟨S16384x5504, .f32⟩
  | .hbm, ⟨33, _⟩ => ⟨S_, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S16384x5504, .f32⟩
  | .hbm, ⟨38, _⟩ => ⟨S16384x5504, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Inproj.lean ====
abbrev S4x4096x2048 : Shape := ⟨3, ![4, 4096, 2048]⟩
abbrev S2x2048 : Shape := ⟨2, ![2, 2048]⟩
abbrev S2048x6144 : Shape := ⟨2, ![2048, 6144]⟩
abbrev S2048x128 : Shape := ⟨2, ![2048, 128]⟩
abbrev S_ : Shape := ⟨0, ![]⟩
abbrev S6x512 : Shape := ⟨2, ![6, 512]⟩
abbrev S1 : Shape := ⟨1, ![1]⟩
abbrev S512 : Shape := ⟨1, ![512]⟩
abbrev S1x3072 : Shape := ⟨2, ![1, 3072]⟩
abbrev S16384x2048 : Shape := ⟨2, ![16384, 2048]⟩
abbrev S1x2048 : Shape := ⟨2, ![1, 2048]⟩
abbrev S2048 : Shape := ⟨1, ![2048]⟩
abbrev S16384x3072 : Shape := ⟨2, ![16384, 3072]⟩
abbrev S16384x128 : Shape := ⟨2, ![16384, 128]⟩
abbrev S16x16384 : Shape := ⟨2, ![16, 16384]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024x128 : Shape := ⟨2, ![1024, 128]⟩
abbrev S16x1024 : Shape := ⟨2, ![16, 1024]⟩
abbrev S1024 : Shape := ⟨1, ![1024]⟩
abbrev S1024x1 : Shape := ⟨2, ![1024, 1]⟩
abbrev S128x1024 : Shape := ⟨2, ![128, 1024]⟩

abbrev nBuf : Space → Nat
  | .hbm => 25
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048x6144, .bf16⟩
  | .hbm, ⟨3, _⟩ => ⟨S2048x128, .bf16⟩
  | .hbm, ⟨4, _⟩ => ⟨S_, .f32⟩
  | .hbm, ⟨5, _⟩ => ⟨S6x512, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S512, .f32⟩
  | .hbm, ⟨10, _⟩ => ⟨S6x512, .f32⟩
  | .hbm, ⟨11, _⟩ => ⟨S_, .i32⟩
  | .hbm, ⟨12, _⟩ => ⟨S1, .i32⟩
  | .hbm, ⟨13, _⟩ => ⟨S_, .f32⟩
  | .hbm, ⟨14, _⟩ => ⟨S512, .f32⟩
  | .hbm, ⟨15, _⟩ => ⟨S6x512, .f32⟩
  | .hbm, ⟨16, _⟩ => ⟨S1x3072, .f32⟩
  | .hbm, ⟨17, _⟩ => ⟨S16384x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S16384x3072, .f32⟩
  | .hbm, ⟨22, _⟩ => ⟨S16384x3072, .bf16⟩
  | .hbm, ⟨23, _⟩ => ⟨S16384x128, .f32⟩
  | .hbm, ⟨24, _⟩ => ⟨S16x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S2048x128, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S16x1024, .f32⟩
  | .local _ .vmem, ⟨17, _⟩ => ⟨S16x1024, .f32⟩
  | .local _ .vmem, ⟨18, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InprojReferenceIdeal.lean ====
abbrev S4x4096x2048 : Shape := ⟨3, ![4, 4096, 2048]⟩
abbrev S2x2048 : Shape := ⟨2, ![2, 2048]⟩
abbrev S2048x6144 : Shape := ⟨2, ![2048, 6144]⟩
abbrev S2048x128 : Shape := ⟨2, ![2048, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S16384x6144 : Shape := ⟨2, ![16384, 6144]⟩
abbrev S16384x3072 : Shape := ⟨2, ![16384, 3072]⟩
abbrev S16384x512 : Shape := ⟨2, ![16384, 512]⟩
abbrev S16384x128 : Shape := ⟨2, ![16384, 128]⟩
abbrev S16384x16 : Shape := ⟨2, ![16384, 16]⟩
abbrev S16x16384 : Shape := ⟨2, ![16, 16384]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048x6144, .bf16⟩
  | .hbm, ⟨3, _⟩ => ⟨S2048x128, .bf16⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x6144, .f32⟩
  | .hbm, ⟨24, _⟩ => ⟨S16384x6144, .f32⟩
  | .hbm, ⟨25, _⟩ => ⟨S16384x3072, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x3072, .f32⟩
  | .hbm, ⟨39, _⟩ => ⟨S2048x128, .f32⟩
  | .hbm, ⟨40, _⟩ => ⟨S16384x128, .f32⟩
  | .hbm, ⟨41, _⟩ => ⟨S16384x3072, .f32⟩
  | .hbm, ⟨42, _⟩ => ⟨S16384x3072, .bf16⟩
  | .hbm, ⟨43, _⟩ => ⟨S16384x16, .f32⟩
  | .hbm, ⟨44, _⟩ => ⟨S16x16384, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Outproj.lean ====
abbrev S4x4096x2048 : Shape := ⟨3, ![4, 4096, 2048]⟩
abbrev S4x4096x512 : Shape := ⟨3, ![4, 4096, 512]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S4x1x512 : Shape := ⟨3, ![4, 1, 512]⟩
abbrev S16384x2048 : Shape := ⟨2, ![16384, 2048]⟩
abbrev S16384x512 : Shape := ⟨2, ![16384, 512]⟩
abbrev S1x1x512 : Shape := ⟨3, ![1, 1, 512]⟩
abbrev S1x512 : Shape := ⟨2, ![1, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x4096x512, .bf16⟩
  | .hbm, ⟨2, _⟩ => ⟨S4x4096x512, .bf16⟩
  | .hbm, ⟨3, _⟩ => ⟨S4x4096x512, .f32⟩
  | .hbm, ⟨4, _⟩ => ⟨S4x4096x512, .f32⟩
  | .hbm, ⟨5, _⟩ => ⟨S2x2048, .f32⟩
  | .hbm, ⟨6, _⟩ => ⟨S2048x2048, .bf16⟩
  | .hbm, ⟨7, _⟩ => ⟨S1x2048, .f32⟩
  | .hbm, ⟨8, _⟩ => ⟨S2048, .f32⟩
  | .hbm, ⟨9, _⟩ => ⟨S4x1x512, .f32⟩
  | .hbm, ⟨10, _⟩ => ⟨S16384x2048, .f32⟩
  | .hbm, ⟨11, _⟩ => ⟨S16384x512, .bf16⟩
  | .hbm, ⟨12, _⟩ => ⟨S16384x512, .bf16⟩
  | .hbm, ⟨13, _⟩ => ⟨S16384x512, .f32⟩
  | .hbm, ⟨14, _⟩ => ⟨S16384x512, .f32⟩
  | .hbm, ⟨15, _⟩ => ⟨S1x1x512, .f32⟩
  | .hbm, ⟨16, _⟩ => ⟨S1x512, .f32⟩
  | .hbm, ⟨17, _⟩ => ⟨S1x1x512, .f32⟩
  | .hbm, ⟨18, _⟩ => ⟨S1x512, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojReferenceIdeal.lean ====
abbrev S4x4096x2048 : Shape := ⟨3, ![4, 4096, 2048]⟩
abbrev S4x4096x512 : Shape := ⟨3, ![4, 4096, 512]⟩
abbrev S2x2048 : Shape := ⟨2, ![2, 2048]⟩
abbrev S2048x2048 : Shape := ⟨2, ![2048, 2048]⟩
abbrev S16384x2048 : Shape := ⟨2, ![16384, 2048]⟩
abbrev S16384x512 : Shape := ⟨2, ![16384, 512]⟩
abbrev S1x2048 : Shape := ⟨2, ![1, 2048]⟩
abbrev S2048 : Shape := ⟨1, ![2048]⟩
abbrev S512 : Shape := ⟨1, ![512]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x512, .bf16⟩
  | .hbm, ⟨2, _⟩ => ⟨S4x4096x512, .bf16⟩
  | .hbm, ⟨3, _⟩ => ⟨S4x4096x512, .f32⟩
  | .hbm, ⟨4, _⟩ => ⟨S4x4096x512, .f32⟩
  | .hbm, ⟨5, _⟩ => ⟨S2x2048, .f32⟩
  | .hbm, ⟨6, _⟩ => ⟨S2048x2048, .bf16⟩
  | .hbm, ⟨7, _⟩ => ⟨S16384x2048, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S1x2048, .f32⟩
  | .hbm, ⟨15, _⟩ => ⟨S2048, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S16384x512, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S1x512, .f32⟩
  | .hbm, ⟨50, _⟩ => ⟨S16384x512, .f32⟩
  | .hbm, ⟨51, _⟩ => ⟨S16384x512, .f32⟩
  | .hbm, ⟨52, _⟩ => ⟨S16384x2048, .f32⟩
  | .hbm, ⟨53, _⟩ => ⟨S2048x2048, .f32⟩
  | .hbm, ⟨54, _⟩ => ⟨S16384x2048, .f32⟩
  | .hbm, ⟨55, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Lru.lean ====
abbrev S16384x3072 : Shape := ⟨2, ![16384, 3072]⟩
abbrev S2x4x512 : Shape := ⟨3, ![2, 4, 512]⟩
abbrev S2x512 : Shape := ⟨2, ![2, 512]⟩
abbrev S2x4x128x128 : Shape := ⟨4, ![2, 4, 128, 128]⟩
abbrev S2x2048 : Shape := ⟨2, ![2, 2048]⟩
abbrev S4x4096x3072 : Shape := ⟨3, ![4, 4096, 3072]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x2048 : Shape := ⟨2, ![1, 2048]⟩
abbrev S2048 : Shape := ⟨1, ![2048]⟩
abbrev S4x1x512 : Shape := ⟨3, ![4, 1, 512]⟩
abbrev S1x1x512 : Shape := ⟨3, ![1, 1, 512]⟩
abbrev S4x4096x512 : Shape := ⟨3, ![4, 4096, 512]⟩
abbrev S1x512x512 : Shape := ⟨3, ![1, 512, 512]⟩
abbrev S520x512 : Shape := ⟨2, ![520, 512]⟩
abbrev S8x512 : Shape := ⟨2, ![8, 512]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S16384x3072, .f32⟩
  | .hbm, ⟨1, _⟩ => ⟨S2x4x512, .f32⟩
  | .hbm, ⟨2, _⟩ => ⟨S2x512, .f32⟩
  | .hbm, ⟨3, _⟩ => ⟨S2x4x128x128, .f32⟩
  | .hbm, ⟨4, _⟩ => ⟨S2x512, .f32⟩
  | .hbm, ⟨5, _⟩ => ⟨S2x4x128x128, .f32⟩
  | .hbm, ⟨6, _⟩ => ⟨S2x512, .f32⟩
  | .hbm, ⟨7, _⟩ => ⟨S2x512, .f32⟩
  | .hbm, ⟨8, _⟩ => ⟨S2x2048, .f32⟩
  | .hbm, ⟨9, _⟩ => ⟨S4x4096x3072, .f32⟩
  | .hbm, ⟨10, _⟩ => ⟨S1x4x512, .f32⟩
  | .hbm, ⟨11, _⟩ => ⟨S4x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1x4x128x128, .f32⟩
  | .hbm, ⟨16, _⟩ => ⟨S4x128x128, .f32⟩
  | .hbm, ⟨17, _⟩ => ⟨S4x128x128, .bf16⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S1x4x128x128, .f32⟩
  | .hbm, ⟨22, _⟩ => ⟨S4x128x128, .f32⟩
  | .hbm, ⟨23, _⟩ => ⟨S4x128x128, .bf16⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x2048, .f32⟩
  | .hbm, ⟨31, _⟩ => ⟨S2048, .f32⟩
  | .hbm, ⟨32, _⟩ => ⟨S4x1x512, .f32⟩
  | .hbm, ⟨33, _⟩ => ⟨S1x1x512, .f32⟩
  | .hbm, ⟨34, _⟩ => ⟨S1x512, .f32⟩
  | .hbm, ⟨35, _⟩ => ⟨S4x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512, .f32⟩
  | .local _ .vmem, ⟨5, _⟩ => ⟨S1x512, .f32⟩
  | .local _ .vmem, ⟨6, _⟩ => ⟨S4x128x128, .bf16⟩
  | .local _ .vmem, ⟨7, _⟩ => ⟨S1x512, .f32⟩
  | .local _ .vmem, ⟨8, _⟩ => ⟨S4x128x128, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S520x512, .f32⟩
  | .local _ .vmem, ⟨15, _⟩ => ⟨S1x512, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Cast.lean ====
abbrev S2x2048x5504 : Shape := ⟨3, ![2, 2048, 5504]⟩
abbrev S2048x5504 : Shape := ⟨2, ![2048, 5504]⟩
abbrev S1x256x5504 : Shape := ⟨3, ![1, 256, 5504]⟩
abbrev S256x5504 : Shape := ⟨2, ![256, 5504]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x5504, .f32⟩
  | .hbm, ⟨1, _⟩ => ⟨S2048x5504, .bf16⟩
  | .local _ .vmem, ⟨0, _⟩ => ⟨S1x256x5504, .f32⟩
  | .local _ .vmem, ⟨1, _⟩ => ⟨S1x256x5504, .f32⟩
  | .local _ .vmem, ⟨2, _⟩ => ⟨S256x5504, .bf16⟩
  | .local _ .vmem, ⟨3, _⟩ => ⟨S256x5504, .bf16⟩
  | _, _ => ⟨S2x2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastReference.lean ====
abbrev S2x2048x5504 : Shape := ⟨3, ![2, 2048, 5504]⟩
abbrev S1x2048x5504 : Shape := ⟨3, ![1, 2048, 5504]⟩
abbrev S2048x5504 : Shape := ⟨2, ![2048, 5504]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x5504, .f32⟩
  | .hbm, ⟨1, _⟩ => ⟨S1x2048x5504, .f32⟩
  | .hbm, ⟨2, _⟩ => ⟨S2048x5504, .f32⟩
  | .hbm, ⟨3, _⟩ => ⟨S2048x5504, .bf16⟩
  | _, _ => ⟨S2x2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Ffn.Steps.lean ====
module

public import proofs.«01_k».proof.Proof.Gen.FfnIdeal.Frame
public import Idealize.ShloMosaic.Lib.Pointwise
public import Idealize.ShloMosaic.Lib.Pipeline.ReadBack
public import Idealize.ShloMosaic.Lib.Pipeline.ValueKit

/-! What one grid point of the feed-forward kernel leaves in its output block and in its scratch block. -/

@[expose] public section
set_option maxRecDepth 16384

noncomputable section
open Idealize.ShloMosaic Idealize.ShloMosaic.TcCoe Idealize.SL.Sem
open Idealize.ShloMosaic.Pipeline (Dat)
namespace Cert.FfnIdeal.Steps
open Cert.FfnIdeal Cert.FfnIdeal.Gen

variable (m : (ℓ : Loc nD τ sig) → Buf (Elt Ideal) ℓ)

/-- The block of activations a point computes from the scratch block `h`. -/
abbrev actBlk (c : Dev nD) (t : Fin cfg0.N) (h : Vec Ideal S1024x2048 .bf16) : FVec Ideal S1024x512 .f32 :=
  k0_pay5 (grid0.coords t) h (iblk m c 2 t) (iblk m c 3 t) (iblk m c 4 t) (iblk m c 5 t)
    (iblk m c 6 t) (iblk m c 7 t) (iblk m c 8 t) (iblk m c 9 t)

/-- The running sum a point leaves, from the activations and the sum before it. -/
abbrev accBlk (c : Dev nD) (t : Fin cfg0.N) (h : Vec Ideal S1024x2048 .bf16) (acc : Vec Ideal S1024x2048 .f32) : FVec Ideal S1024x2048 .f32 :=
  k0_pay1 (actBlk m c t h) acc (iblk m c 10 t) (iblk m c 11 t) (iblk m c 12 t) (iblk m c 13 t)

abbrev hBlk (c : Dev nD) (t : Fin cfg0.N) : FVec Ideal S1024x2048 .bf16 := k0_pay3 (iblk m c 0 t) (iblk m c 1 t)

theorem pay6_eq (v : FVec Ideal S1024x2048 .f32) : k0_pay6 v = v := by
  unfold k0_pay6; simp only [shapeCast_self]

theorem first_h (c : Dev nD) (t : Fin cfg0.N) (h0 : t.val % 11 = 0) :
    (outsAt0 m c t.val t.isLt).2 = hBlk m c t := by
  rw [outsAt0_A m c t h0 (by omega)]; frame_out

theorem first_o (c : Dev nD) (t : Fin cfg0.N) (h0 : t.val % 11 = 0) :
    (outsAt0 m c t.val t.isLt).1 = accBlk m c t (hBlk m c t) (k0_pay4 (F := Ideal)) := by
  rw [outsAt0_A m c t h0 (by omega)]; frame_out
  simp only [pay6_eq]

theorem mid_h (c : Dev nD) (t : Fin cfg0.N) (h0 : ¬t.val % 11 = 0) (h1 : ¬t.val % 11 = 10) (p : t.val - 1 < cfg0.N) :
    (outsAt0 m c t.val t.isLt).2 = (outsAt0 m c (t.val - 1) p).2 := by
  rw [outsAt0_B m c t h0 h1]; frame_out
  unfold sout0_B_0
  rfl

theorem mid_o (c : Dev nD) (t : Fin cfg0.N) (h0 : ¬t.val % 11 = 0) (h1 : ¬t.val % 11 = 10) (p : t.val - 1 < cfg0.N) :
    (outsAt0 m c t.val t.isLt).1 = accBlk m c t (outsAt0 m c (t.val - 1) p).2 (outsAt0 m c (t.val - 1) p).1 := by
  rw [outsAt0_B m c t h0 h1]; frame_out
  simp only [read_unread_whole, pay6_eq]

theorem last_o (c : Dev nD) (t : Fin cfg0.N) (h1 : t.val % 11 = 10) (p : t.val - 1 < cfg0.N) :
    (outsAt0 m c t.val t.isLt).1 = k0_pay2 (iblk m c 0 t) (accBlk m c t (outsAt0 m c (t.val - 1) p).2 (outsAt0 m c (t.val - 1) p).1) := by
  rw [outsAt0_C m c t (by omega) h1]; frame_out
  simp only [read_unread_whole, pay6_eq]

end Cert.FfnIdeal.Steps
-- ==== Proof.Ffn.Spec.lean ====
module

public import proofs.«01_k».proof.Proof.Gen.FfnReferenceIdeal.Run
public import Idealize.ShloMosaic.Lib.Pointwise
public import Idealize.ShloMosaic.Lib.Pipeline.ValueKit

/-! The feed-forward, entry by entry, over the extended reals: what the reference's composed term reads at an entry. -/

@[expose] public section
set_option maxRecDepth 16384

noncomputable section
open Idealize.ShloMosaic Idealize.ShloMosaic.TcCoe Idealize.SL.Sem
open Idealize.ShloMosaic.Pipeline (Dat)
namespace Cert.FfnSpec
open Cert.FfnReferenceIdeal (S4x4096x2048 S2x2048 S2048x5504 S5504x2048)

/-- Row `r` of the flattened input. -/
def X (A0 : FVec Ideal S4x4096x2048 .f32) (r : Fin 16384) (k : Fin 2048) : EReal :=
  A0 (ix3 ⟨r.val / 4096, by omega⟩ ⟨r.val % 4096, by omega⟩ k)

/-- The normalised row times the gain. -/
def H (A0 : FVec Ideal S4x4096x2048 .f32) (A1 : FVec Ideal S2x2048 .f32) (r : Fin 16384) (k : Fin 2048) : EReal :=
  X A0 r k * Ideal.rsqrt (Ideal.div (∑ x : Fin 2048, X A0 r x * X A0 r x) (Ideal.ofBits .f32 0x45000000#32) + Ideal.ofBits .f32 0x358637BD#32)
    * A1 (ix2 1 k)

/-- The gated activation: `silu (h · w_gate) * (h · w_up)` for one row of `h`. -/
def act (h : Fin 2048 → EReal) (wg wu : FVec Ideal S2048x5504 .bf16) (l : Fin 5504) : EReal :=
  (∑ x : Fin 2048, h x * wg (ix2 x l)) * Ideal.logistic (∑ x : Fin 2048, h x * wg (ix2 x l)) * ∑ x : Fin 2048, h x * wu (ix2 x l)

/-- One term of the last product's sum, zero past the hidden width. -/
def term (h : Fin 2048 → EReal) (wg wu : FVec Ideal S2048x5504 .bf16) (wd : FVec Ideal S5504x2048 .bf16) (k : Fin 2048) (n : ℕ) : EReal :=
  if hn : n < 5504 then act h wg wu ⟨n, hn⟩ * wd (ix2 ⟨n, hn⟩ k) else 0

/-- The result's entry. -/
def out (A0 : FVec Ideal S4x4096x2048 .f32) (A1 : FVec Ideal S2x2048 .f32) (wg wu : FVec Ideal S2048x5504 .bf16)
    (wd : FVec Ideal S5504x2048 .bf16) (r : Fin 16384) (k : Fin 2048) : EReal :=
  X A0 r k + Ideal.ofBits .f32 0x3F000000#32 * ∑ n ∈ Finset.range 5504, term (H A0 A1 r) wg wu wd k n

theorem sum_terms (h : Fin 2048 → EReal) (wg wu : FVec Ideal S2048x5504 .bf16) (wd : FVec Ideal S5504x2048 .bf16) (k : Fin 2048) :
    ∑ n ∈ Finset.range 5504, term h wg wu wd k n = ∑ l : Fin 5504, act h wg wu l * wd (ix2 l k) := by
  rw [Finset.sum_range]
  exact Finset.sum_congr rfl fun l _ => dif_pos l.isLt

/-- Terms past the hidden width add nothing. -/
theorem sum_padded (h : Fin 2048 → EReal) (wg wu : FVec Ideal S2048x5504 .bf16) (wd : FVec Ideal S5504x2048 .bf16) (k : Fin 2048) :
    ∑ n ∈ Finset.range 5632, term h wg wu wd k n = ∑ n ∈ Finset.range 5504, term h wg wu wd k n := by
  refine (Finset.sum_subset (Finset.range_mono (by decide)) fun n _ hn => ?_).symm
  exact dif_neg (by simpa using hn)

end Cert.FfnSpec

namespace Cert.FfnReferenceIdeal.At
open Cert.FfnReferenceIdeal Cert.FfnReferenceIdeal.Gen Cert.FfnSpec

/-- The flattened input. -/
def xT (A0 : FVec Ideal S4x4096x2048 .f32) : FVec Ideal S16384x2048 .f32 := shapeCast _ A0 shapeCasts_S4x4096x2048_S16384x2048

/-- The normalised rows times the gain, as the reference composes them. -/
def hT (A0 : FVec Ideal S4x4096x2048 .f32) (A1 : FVec Ideal S2x2048 .f32) : FVec Ideal S16384x2048 .f32 :=
  mulf (mulf (xT A0) (broadcastInDim S16384x2048 ![0, 1] bcast_S16384x1_S16384x2048_0_1 (Host.rsqrt (addf (Host.divf
    (broadcastInDim S16384x1 ![0] bcast_S16384_S16384x1_0 (Host.reduceAdd (mulf (xT A0) (xT A0)) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1
      (shapeCast _ (extractStridedSlice S1x2048 ![1, 0] A1 slices_S2x2048_S1x2048_1_0) shapeCasts_S1x2048_S2048)))

/-- A product with a widened weight. -/
def gT (h : FVec Ideal S16384x2048 .f32) (w : FVec Ideal S2048x5504 .bf16) : FVec Ideal S16384x5504 .f32 :=
  Host.dotGeneral dot_S16384x2048_S2048x5504_S16384x5504_1_0_0_1_n_n none h (extf .f32 w bitsLt_bf16_f32)

/-- The gated product. -/
def aT (g u : FVec Ideal S16384x5504 .f32) : FVec Ideal S16384x5504 .f32 :=
  mulf (mulf g (Host.divf (broadcastInDim S16384x5504 ![] bcast_S_S16384x5504 (constant S_ .f32 0x3F800000#32))
    (addf (broadcastInDim S16384x5504 ![] bcast_S_S16384x5504 (constant S_ .f32 0x3F800000#32)) (Host.exp (Host.negf g))))) u

theorem xT_at (A0 : FVec Ideal S4x4096x2048 .f32) (r : Fin 16384) (k : Fin 2048) : xT A0 (ix2 r k) = X A0 r k := by
  unfold X
  pointwise [xT]

theorem hT_at (A0 : FVec Ideal S4x4096x2048 .f32) (A1 : FVec Ideal S2x2048 .f32) (r : Fin 16384) (k : Fin 2048) :
    hT A0 A1 (ix2 r k) = H A0 A1 r k := by
  unfold hT H
  simp only [← xT_at]
  generalize xT A0 = x
  pointwise

theorem gT_at (h : FVec Ideal S16384x2048 .f32) (w : FVec Ideal S2048x5504 .bf16) (r : Fin 16384) (l : Fin 5504) :
    gT h w (ix2 r l) = ∑ x : Fin 2048, h (ix2 r x) * w (ix2 x l) := by
  pointwise [gT]

theorem aT_at (g u : FVec Ideal S16384x5504 .f32) (r : Fin 16384) (l : Fin 5504) :
    aT g u (ix2 r l) = g (ix2 r l) * Ideal.logistic (g (ix2 r l)) * u (ix2 r l) := by
  pointwise [aT]
  rfl

theorem oT_at (x : FVec Ideal S16384x2048 .f32) (a : FVec Ideal S16384x5504 .f32) (w : FVec Ideal S5504x2048 .bf16) (r : Fin 16384) (k : Fin 2048) :
    addf x (mulf (broadcastInDim S16384x2048 ![] bcast_S_S16384x2048 (constant S_ .f32 0x3F000000#32))
      (Host.dotGeneral dot_S16384x5504_S5504x2048_S16384x2048_1_0_0_1_n_n none a (extf .f32 w bitsLt_bf16_f32))) (ix2 r k)
      = x (ix2 r k) + Ideal.ofBits .f32 0x3F000000#32 * ∑ l : Fin 5504, a (ix2 r l) * w (ix2 l k) := by
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = (fun i : S16384x2048.Idx => out (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.FfnReferenceIdeal.Value.run m ρ)
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  generalize m ((c.tc : Thread nD τ).loc main_arg4) = A4
  funext i
  idx_vars i
  unfold out
  rw [sum_terms]
  refine (oT_at (xT A0) (aT (gT (hT A0 A1) A2) (gT (hT A0 A1) A3)) A4 _ _).trans ?_
  simp only [xT_at, aT_at, gT_at, hT_at]
  rfl

end Cert.FfnReferenceIdeal.At
-- ==== Proof.Ffn.Blocks.lean ====
module

public import proofs.«01_k».proof.Proof.Gen.FfnIdeal.Frame
public import proofs.«01_k».proof.Proof.Ffn.Spec
public import Idealize.ShloMosaic.Lib.Pointwise
public import Idealize.ShloMosaic.Lib.Pipeline.ValueKit

/-! The blocks the feed-forward kernel's windows hold at a grid point, read off the arguments. -/

@[expose] public section
set_option maxRecDepth 16384

noncomputable section
open Idealize.ShloMosaic Idealize.ShloMosaic.TcCoe Idealize.SL.Sem
open Idealize.ShloMosaic.Pipeline (Dat)
namespace Cert.FfnIdeal.Blocks
open Cert.FfnIdeal Cert.FfnIdeal.Gen Cert.FfnSpec
variable (m : (ℓ : Loc nD τ sig) → Buf (Elt Ideal) ℓ)

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx14 : ∀ t : Fin cfg0.N, win0_14.index t = ![t.val / 11, 0] := (by decide +kernel : ∀ t : Fin grid0.N, _)
theorem crd : ∀ t : Fin cfg0.N, (grid0.coords t 1).val = t.val % 11 := (by decide +kernel : ∀ t : Fin grid0.N, _)

/-- The mask of the last column block: entry `k` of hidden block `j` is live when it lies under the hidden width. -/
theorem mask : ∀ (j : Fin 11) (k : Fin 512), IntOp.cmpi CmpIPredicate.slt (BitVec.ofNat 32 k.val)
    (Scalar.subi (5504#32) (Scalar.muli (BitVec.ofNat 32 j.val) 512#32)) = if 512 * j.val + k.val < 5504 then 1#1 else 0#1 := by
  decide +kernel

theorem row_lt (t : Fin cfg0.N) (y : Fin 1024) : t.val / 11 * 1024 + y.val < 16384 := by
  have h : t.val < 176 := lt_of_lt_of_eq t.isLt N_0
  omega

theorem b0 (c : Dev nD) (t : Fin cfg0.N) (y : Fin 1024) (k : Fin 2048) :
    iblk m c 0 t (ix2 y k) = X (m ((c.tc : Thread nD τ).loc main_arg0)) ⟨t.val / 11 * 1024 + y.val, row_lt t y⟩ k := by
  unfold X
  blk_point [iblk, V, idx0 t]

theorem b1 (c : Dev nD) (t : Fin cfg0.N) (k : Fin 2048) :
    iblk m c 1 t (ix2 0 k) = m ((c.tc : Thread nD τ).loc main_arg1) (ix2 1 k) := by
  blk_point [iblk, V, idx1 t]

theorem idx2 : ∀ t : Fin cfg0.N, win0_2.index t = ![0, min (4 * (t.val % 11)) 42] := (by decide +kernel : ∀ t : Fin grid0.N, _)
theorem b2 (c : Dev nD) (t : Fin cfg0.N) (x : Fin 2048) (l : Fin 128) (hl : 512 * (t.val % 11) + (0 + l.val) < 5504) :
    iblk m c 2 t (ix2 x l) = m ((c.tc : Thread nD τ).loc main_arg2) (ix2 x ⟨512 * (t.val % 11) + (0 + l.val), hl⟩) := by
  blk_point [iblk, V, idx2 t]

theorem idx3 : ∀ t : Fin cfg0.N, win0_3.index t = ![0, min (4 * (t.val % 11) + 1) 42] := (by decide +kernel : ∀ t : Fin grid0.N, _)
theorem b3 (c : Dev nD) (t : Fin cfg0.N) (x : Fin 2048) (l : Fin 128) (hl : 512 * (t.val % 11) + (128 + l.val) < 5504) :
    iblk m c 3 t (ix2 x l) = m ((c.tc : Thread nD τ).loc main_arg2) (ix2 x ⟨512 * (t.val % 11) + (128 + l.val), hl⟩) := by
  blk_point [iblk, V, idx3 t]

theorem idx4 : ∀ t : Fin cfg0.N, win0_4.index t = ![0, min (4 * (t.val % 11) + 2) 42] := (by decide +kernel : ∀ t : Fin grid0.N, _)
theorem b4 (c : Dev nD) (t : Fin cfg0.N) (x : Fin 2048) (l : Fin 128) (hl : 512 * (t.val % 11) + (256 + l.val) < 5504) :
    iblk m c 4 t (ix2 x l) = m ((c.tc : Thread nD τ).loc main_arg2) (ix2 x ⟨512 * (t.val % 11) + (256 + l.val), hl⟩) := by
  blk_point [iblk, V, idx4 t]

theorem idx5 : ∀ t : Fin cfg0.N, win0_5.index t = ![0, min (4 * (t.val % 11) + 3) 42] := (by decide +kernel : ∀ t : Fin grid0.N, _)
theorem b5 (c : Dev nD) (t : Fin cfg0.N) (x : Fin 2048) (l : Fin 128) (hl : 512 * (t.val % 11) + (384 + l.val) < 5504) :
    iblk m c 5 t (ix2 x l) = m ((c.tc : Thread nD τ).loc main_arg2) (ix2 x ⟨512 * (t.val % 11) + (384 + l.val), hl⟩) := by
  blk_point [iblk, V, idx5 t]

theorem idx6 : ∀ t : Fin cfg0.N, win0_6.index t = ![0, min (4 * (t.val % 11)) 42] := (by decide +kernel : ∀ t : Fin grid0.N, _)
theorem b6 (c : Dev nD) (t : Fin cfg0.N) (x : Fin 2048) (l : Fin 128) (hl : 512 * (t.val % 11) + (0 + l.val) < 5504) :
    iblk m c 6 t (ix2 x l) = m ((c.tc : Thread nD τ).loc main_arg3) (ix2 x ⟨512 * (t.val % 11) + (0 + l.val), hl⟩) := by
  blk_point [iblk, V, idx6 t]

theorem idx7 : ∀ t : Fin cfg0.N, win0_7.index t = ![0, min (4 * (t.val % 11) + 1) 42] := (by decide +kernel : ∀ t : Fin grid0.N, _)
theorem b7 (c : Dev nD) (t : Fin cfg0.N) (x : Fin 2048) (l : Fin 128) (hl : 512 * (t.val % 11) + (128 + l.val) < 5504) :
    iblk m c 7 t (ix2 x l) = m ((c.tc : Thread nD τ).loc main_arg3) (ix2 x ⟨512 * (t.val % 11) + (128 + l.val), hl⟩) := by
  blk_point [iblk, V, idx7 t]

theorem idx8 : ∀ t : Fin cfg0.N, win0_8.index t = ![0, min (4 * (t.val % 11) + 2) 42] := (by decide +kernel : ∀ t : Fin grid0.N, _)
theorem b8 (c : Dev nD) (t : Fin cfg0.N) (x : Fin 2048) (l : Fin 128) (hl : 512 * (t.val % 11) + (256 + l.val) < 5504) :
    iblk m c 8 t (ix2 x l) = m ((c.tc : Thread nD τ).loc main_arg3) (ix2 x ⟨512 * (t.val % 11) + (256 + l.val), hl⟩) := by
  blk_point [iblk, V, idx8 t]

theorem idx9 : ∀ t : Fin cfg0.N, win0_9.index t = ![0, min (4 * (t.val % 11) + 3) 42] := (by decide +kernel : ∀ t : Fin grid0.N, _)
theorem b9 (c : Dev nD) (t : Fin cfg0.N) (x : Fin 2048) (l : Fin 128) (hl : 512 * (t.val % 11) + (384 + l.val) < 5504) :
    iblk m c 9 t (ix2 x l) = m ((c.tc : Thread nD τ).loc main_arg3) (ix2 x ⟨512 * (t.val % 11) + (384 + l.val), hl⟩) := by
  blk_point [iblk, V, idx9 t]

theorem idx10 : ∀ t : Fin cfg0.N, win0_10.index t = ![min (4 * (t.val % 11)) 42, 0] := (by decide +kernel : ∀ t : Fin grid0.N, _)
theorem b10 (c : Dev nD) (t : Fin cfg0.N) (x : Fin 2048) (l : Fin 128) (hl : 512 * (t.val % 11) + (0 + l.val) < 5504) :
    iblk m c 10 t (ix2 l x) = m ((c.tc : Thread nD τ).loc main_arg4) (ix2 ⟨512 * (t.val % 11) + (0 + l.val), hl⟩ x) := by
  blk_point [iblk, V, idx10 t]

theorem idx11 : ∀ t : Fin cfg0.N, win0_11.index t = ![min (4 * (t.val % 11) + 1) 42, 0] := (by decide +kernel : ∀ t : Fin grid0.N, _)
theorem b11 (c : Dev nD) (t : Fin cfg0.N) (x : Fin 2048) (l : Fin 128) (hl : 512 * (t.val % 11) + (128 + l.val) < 5504) :
    iblk m c 11 t (ix2 l x) = m ((c.tc : Thread nD τ).loc main_arg4) (ix2 ⟨512 * (t.val % 11) + (128 + l.val), hl⟩ x) := by
  blk_point [iblk, V, idx11 t]

theorem idx12 : ∀ t : Fin cfg0.N, win0_12.index t = ![min (4 * (t.val % 11) + 2) 42, 0] := (by decide +kernel : ∀ t : Fin grid0.N, _)
theorem b12 (c : Dev nD) (t : Fin cfg0.N) (x : Fin 2048) (l : Fin 128) (hl : 512 * (t.val % 11) + (256 + l.val) < 5504) :
    iblk m c 12 t (ix2 l x) = m ((c.tc : Thread nD τ).loc main_arg4) (ix2 ⟨512 * (t.val % 11) + (256 + l.val), hl⟩ x) := by
  blk_point [iblk, V, idx12 t]

theorem idx13 : ∀ t : Fin cfg0.N, win0_13.index t = ![min (4 * (t.val % 11) + 3) 42, 0] := (by decide +kernel : ∀ t : Fin grid0.N, _)
theorem b13 (c : Dev nD) (t : Fin cfg0.N) (x : Fin 2048) (l : Fin 128) (hl : 512 * (t.val % 11) + (384 + l.val) < 5504) :
    iblk m c 13 t (ix2 l x) = m ((c.tc : Thread nD τ).loc main_arg4) (ix2 ⟨512 * (t.val % 11) + (384 + l.val), hl⟩ x) := by
  blk_point [iblk, V, idx13 t]

end Cert.FfnIdeal.Blocks
-- ==== Proof.Ffn.Run.lean ====
module

public import proofs.«01_k».proof.Proof.Ffn.Steps
public import proofs.«01_k».proof.Proof.Ffn.Blocks
public import Idealize.ShloMosaic.Lib.Claim

/-! The feed-forward kernel's running sum after each grid point, its result array, and its run. -/

@[expose] public section
set_option maxRecDepth 16384

noncomputable section
open Idealize.ShloMosaic Idealize.ShloMosaic.TcCoe Idealize.SL.Sem
open Idealize.ShloMosaic.Pipeline (Dat)
namespace Cert.FfnIdeal.Run
open Cert.FfnIdeal Cert.FfnIdeal.Gen Cert.FfnSpec Cert.FfnIdeal.Steps Cert.FfnIdeal.Blocks
variable (m : (ℓ : Loc nD τ sig) → Buf (Elt Ideal) ℓ)

/-- The normalised block of a payload, entry by entry. -/
theorem pay3_at (x : FVec Ideal S1024x2048 .f32) (g : FVec Ideal S1x2048 .f32) (r : Fin 1024) (k : Fin 2048) :
    k0_pay3 (F := Ideal) x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) := by
  pointwise [k0_pay3]

/-- Four column blocks of 128, laid side by side, read a column of the weight wherever the weight has it. -/
theorem cat_cols (w : FVec Ideal S2048x5504 .bf16) (a b c d : FVec Ideal S2048x128 .bf16) (j : ℕ)
    (ha : ∀ (x : Fin 2048) (l : Fin 128) (hl : 512 * j + (0 + l.val) < 5504), a (ix2 x l) = w (ix2 x ⟨_, hl⟩))
    (hb : ∀ (x : Fin 2048) (l : Fin 128) (hl : 512 * j + (128 + l.val) < 5504), b (ix2 x l) = w (ix2 x ⟨_, hl⟩))
    (hc : ∀ (x : Fin 2048) (l : Fin 128) (hl : 512 * j + (256 + l.val) < 5504), c (ix2 x l) = w (ix2 x ⟨_, hl⟩))
    (hd : ∀ (x : Fin 2048) (l : Fin 128) (hl : 512 * j + (384 + l.val) < 5504), d (ix2 x l) = w (ix2 x ⟨_, hl⟩))
    (x : Fin 2048) (k : Fin 512) (hk : 512 * j + k.val < 5504) :
    (if h : k.val < 128 then a (ix2 x ⟨k.val, h⟩) else if h' : k.val - 128 < 128 then b (ix2 x ⟨k.val - 128, h'⟩)
      else if h'' : k.val - 128 - 128 < 128 then c (ix2 x ⟨k.val - 128 - 128, h''⟩)
      else d (ix2 x ⟨k.val - 128 - 128 - 128, by omega⟩)) = w (ix2 x ⟨512 * j + k.val, hk⟩) := by
  split_ifs with h h' h''
  · rw [ha x _ (by simp only; omega)]; congr 3; simp only; omega
  · rw [hb x _ (by simp only; omega)]; congr 3; simp only; omega
  · rw [hc x _ (by simp only; omega)]; congr 3; simp only; omega
  · rw [hd x _ (by simp only; omega)]; congr 3; simp only; omega

theorem cat_rows (w : FVec Ideal S5504x2048 .bf16) (a b c d : FVec Ideal S128x2048 .bf16) (j : ℕ)
    (ha : ∀ (x : Fin 2048) (l : Fin 128) (hl : 512 * j + (0 + l.val) < 5504), a (ix2 l x) = w (ix2 ⟨_, hl⟩ x))
    (hb : ∀ (x : Fin 2048) (l : Fin 128) (hl : 512 * j + (128 + l.val) < 5504), b (ix2 l x) = w (ix2 ⟨_, hl⟩ x))
    (hc : ∀ (x : Fin 2048) (l : Fin 128) (hl : 512 * j + (256 + l.val) < 5504), c (ix2 l x) = w (ix2 ⟨_, hl⟩ x))
    (hd : ∀ (x : Fin 2048) (l : Fin 128) (hl : 512 * j + (384 + l.val) < 5504), d (ix2 l x) = w (ix2 ⟨_, hl⟩ x))
    (x : Fin 2048) (k : Fin 512) (hk : 512 * j + k.val < 5504) :
    (if h : k.val < 128 then a (ix2 ⟨k.val, h⟩ x) else if h' : k.val - 128 < 128 then b (ix2 ⟨k.val - 128, h'⟩ x)
      else if h'' : k.val - 128 - 128 < 128 then c (ix2 ⟨k.val - 128 - 128, h''⟩ x)
      else d (ix2 ⟨k.val - 128 - 128 - 128, by omega⟩ x)) = w (ix2 ⟨512 * j + k.val, hk⟩ x) := by
  split_ifs with h h' h''
  · rw [ha x _ (by simp only; omega)]; congr 3; simp only; omega
  · rw [hb x _ (by simp only; omega)]; congr 3; simp only; omega
  · rw [hc x _ (by simp only; omega)]; congr 3; simp only; omega
  · rw [hd x _ (by simp only; omega)]; congr 3; simp only; omega

abbrev wg (c : Dev nD) : FVec Ideal S2048x5504 .bf16 := m ((c.tc : Thread nD τ).loc main_arg2)
abbrev wu (c : Dev nD) : FVec Ideal S2048x5504 .bf16 := m ((c.tc : Thread nD τ).loc main_arg3)
abbrev wd (c : Dev nD) : FVec Ideal S5504x2048 .bf16 := m ((c.tc : Thread nD τ).loc main_arg4)

/-- The activations a point computes: the gated activation where the hidden column exists, zero past it. -/
theorem actBlk_at (c : Dev nD) (t : Fin cfg0.N) (h : Vec Ideal S1024x2048 .bf16) (r : Fin 1024) (k : Fin 512) :
    actBlk m c t h (ix2 r k) = if hk : 512 * (t.val % 11) + k.val < 5504
      then act (fun x => h (ix2 r x)) (wg m c) (wu m c) ⟨_, hk⟩ else 0 := by
  have hm := mask ⟨t.val % 11, Nat.mod_lt _ (by decide)⟩ k
  simp only at hm
  have eg : ∀ (x : Fin 2048) (hk : 512 * (t.val % 11) + k.val < 5504), _ := fun x hk =>
    cat_cols (wg m c) (iblk m c 2 t) (iblk m c 3 t) (iblk m c 4 t) (iblk m c 5 t) (t.val % 11)
      (b2 m c t) (b3 m c t) (b4 m c t) (b5 m c t) x k hk
  have eu : ∀ (x : Fin 2048) (hk : 512 * (t.val % 11) + k.val < 5504), _ := fun x hk =>
    cat_cols (wu m c) (iblk m c 6 t) (iblk m c 7 t) (iblk m c 8 t) (iblk m c 9 t) (t.val % 11)
      (b6 m c t) (b7 m c t) (b8 m c t) (b9 m c t) x k hk
  unfold actBlk
  revert eg eu
  generalize (iblk m c 2 t : FVec Ideal S2048x128 .bf16) = a
  generalize (iblk m c 3 t : FVec Ideal S2048x128 .bf16) = b
  generalize (iblk m c 4 t : FVec Ideal S2048x128 .bf16) = c'
  generalize (iblk m c 5 t : FVec Ideal S2048x128 .bf16) = d
  generalize (iblk m c 6 t : FVec Ideal S2048x128 .bf16) = e
  generalize (iblk m c 7 t : FVec Ideal S2048x128 .bf16) = f
  generalize (iblk m c 8 t : FVec Ideal S2048x128 .bf16) = p
  generalize (iblk m c 9 t : FVec Ideal S2048x128 .bf16) = q
  intro eg eu
  pointwise [k0_pay5]
  rw [crd t, hm]
  by_cases hk : 512 * (t.val % 11) + k.val < 5504
  · rw [dif_pos hk, if_pos hk]
    simp only [fun x => eg x hk, fun x => eu x hk]
    rfl
  · rw [dif_neg hk, if_neg hk]
    rfl

/-- What a point adds to the running sum: its 512 terms of the last product. -/
theorem accBlk_at (c : Dev nD) (t : Fin cfg0.N) (h : Vec Ideal S1024x2048 .bf16) (acc : Vec Ideal S1024x2048 .f32) (r : Fin 1024) (k : Fin 2048) :
    accBlk m c t h acc (ix2 r k) = acc (ix2 r k) + ∑ n ∈ Finset.range 512,
      term (fun x => h (ix2 r x)) (wg m c) (wu m c) (wd m c) k (512 * (t.val % 11) + n) := by
  have ed : ∀ (x : Fin 512) (hk : 512 * (t.val % 11) + x.val < 5504), _ := fun x hk =>
    cat_rows (wd m c) (iblk m c 10 t) (iblk m c 11 t) (iblk m c 12 t) (iblk m c 13 t) (t.val % 11)
      (fun x l => b10 m c t x l) (fun x l => b11 m c t x l) (fun x l => b12 m c t x l) (fun x l => b13 m c t x l) k x hk
  have ea := fun x : Fin 512 => actBlk_at m c t h r x
  unfold accBlk
  revert ed ea
  generalize (actBlk m c t h : FVec Ideal S1024x512 .f32) = av
  generalize (iblk m c 10 t : FVec Ideal S128x2048 .bf16) = a
  generalize (iblk m c 11 t : FVec Ideal S128x2048 .bf16) = b
  generalize (iblk m c 12 t : FVec Ideal S128x2048 .bf16) = c'
  generalize (iblk m c 13 t : FVec Ideal S128x2048 .bf16) = d
  intro ed ea
  pointwise [k0_pay1]
  rw [Finset.sum_range]
  refine congrArg _ (Finset.sum_congr rfl fun x _ => ?_)
  rw [ea x]
  unfold term
  by_cases hk : 512 * (t.val % 11) + x.val < 5504
  · rw [dif_pos hk, dif_pos hk, ed x hk]
  · rw [dif_neg hk, dif_neg hk, zero_mul]

abbrev hRow (c : Dev nD) (t : Fin cfg0.N) (r : Fin 1024) : Fin 2048 → EReal :=
  H (m ((c.tc : Thread nD τ).loc main_arg0)) (m ((c.tc : Thread nD τ).loc main_arg1)) ⟨t.val / 11 * 1024 + r.val, row_lt t r⟩

theorem hBlk_at (c : Dev nD) (t : Fin cfg0.N) (r : Fin 1024) (k : Fin 2048) : hBlk m c t (ix2 r k) = hRow m c t r k := by
  unfold hBlk hRow H
  have e0 := fun k => b0 m c t r k
  have e1 := b1 m c t k
  revert e0 e1
  generalize (iblk m c 0 t : FVec Ideal S1024x2048 .f32) = x
  generalize (iblk m c 1 t : FVec Ideal S1x2048 .f32) = g
  intro e0 e1
  rw [pay3_at]
  simp only [e0, e1]

theorem pay4_at (i : S1024x2048.Idx) : k0_pay4 (F := Ideal) i = (0 : EReal) := by
  idx_vars i
  pointwise [k0_pay4]

theorem sum_step (T : ℕ → EReal) (j : ℕ) :
    (∑ n ∈ Finset.range (512 * j), T n) + ∑ n ∈ Finset.range 512, T (512 * j + n) = ∑ n ∈ Finset.range (512 * (j + 1)), T n := by
  rw [Nat.mul_succ, Finset.sum_range_add]

/-- The running sum and the kept rows after point `t`, short of a last one. -/
def Inv (c : Dev nD) (t : Fin cfg0.N) : Prop :=
  ∀ (r : Fin 1024) (k : Fin 2048), (outsAt0 m c t.val t.isLt).2 (ix2 r k) = hRow m c t r k
    ∧ (outsAt0 m c t.val t.isLt).1 (ix2 r k) = ∑ n ∈ Finset.range (512 * (t.val % 11 + 1)),
        term (hRow m c t r) (wg m c) (wu m c) (wd m c) k n

theorem inv_aux (c : Dev nD) : ∀ (n : ℕ) (hn : n < cfg0.N), ¬n % 11 = 10 → Inv m c ⟨n, hn⟩ := by
  intro n
  induction n with
  | zero =>
    intro hn _ r k
    refine ⟨?_, ?_⟩
    · rw [first_h m c ⟨0, hn⟩ rfl]; exact hBlk_at m c _ r k
    · rw [first_o m c ⟨0, hn⟩ rfl, accBlk_at]
      simp only [hBlk_at, pay4_at]
      rw [← sum_step]
      rfl
  | succ n ih =>
    intro hn h10 r k
    by_cases h0 : (n + 1) % 11 = 0
    · refine ⟨?_, ?_⟩
      · rw [first_h m c ⟨n + 1, hn⟩ h0]; exact hBlk_at m c _ r k
      · rw [first_o m c ⟨n + 1, hn⟩ h0, accBlk_at]
        simp only [hBlk_at, pay4_at]
        rw [← sum_step, h0]
        rfl
    · have hp : n < cfg0.N := Nat.lt_of_succ_lt hn
      have ih' := ih hp (by omega)
      have ih1 := fun k => (ih' r k).1
      have ih2 := (ih' r k).2
      have hh : hRow m c ⟨n + 1, hn⟩ r = hRow m c ⟨n, hp⟩ r := by
        unfold hRow
        congr 2
        simp only
        omega
      refine ⟨?_, ?_⟩
      · rw [mid_h m c ⟨n + 1, hn⟩ h0 h10 hp, hh]; exact ih1 k
      · rw [mid_o m c ⟨n + 1, hn⟩ h0 h10 hp, accBlk_at, hh]
        simp only [Nat.add_sub_cancel, ih1] at ih2 ⊢
        have e : (n + 1) % 11 = n % 11 + 1 := by omega
        rw [ih2, e, sum_step]

/-- The result's block after a last point. -/
theorem last_at (c : Dev nD) (t : Fin cfg0.N) (h10 : t.val % 11 = 10) (r : Fin 1024) (k : Fin 2048) :
    (outsAt0 m c t.val t.isLt).1 (ix2 r k) = out (m ((c.tc : Thread nD τ).loc main_arg0)) (m ((c.tc : Thread nD τ).loc main_arg1))
      (wg m c) (wu m c) (wd m c) ⟨t.val / 11 * 1024 + r.val, row_lt t r⟩ k := by
  have hp : t.val - 1 < cfg0.N := lt_of_le_of_lt (Nat.sub_le _ _) t.isLt
  have ih' := inv_aux m c (t.val - 1) hp (by omega)
  have ih1 := fun k => (ih' r k).1
  have ih2 := (ih' r k).2
  have hh : hRow m c ⟨t.val - 1, hp⟩ r = hRow m c t r := by
    unfold hRow
    congr 2
    simp only
    omega
  rw [last_o m c t h10 hp]
  have e0 := b0 m c t r k
  have eo := accBlk_at m c t (outsAt0 m c (t.val - 1) hp).2 (outsAt0 m c (t.val - 1) hp).1 r k
  revert e0 eo
  generalize (accBlk m c t (outsAt0 m c (t.val - 1) hp).2 (outsAt0 m c (t.val - 1) hp).1 : FVec Ideal S1024x2048 .f32) = o
  generalize (iblk m c 0 t : FVec Ideal S1024x2048 .f32) = x
  intro e0 eo
  pointwise [k0_pay2]
  rw [e0, eo]
  simp only [ih1] at ih2 ⊢
  have e : (t.val - 1) % 11 + 1 = t.val % 11 := by omega
  rw [ih2, hh, e, sum_step, h10]
  unfold out
  rw [← sum_padded]

/-- The result array. -/
abbrev G (c : Dev nD) : FVec Ideal S16384x2048 .f32 := fun i =>
  out (m ((c.tc : Thread nD τ).loc main_arg0)) (m ((c.tc : Thread nD τ).loc main_arg1)) (wg m c) (wu m c) (wd m c) (i 0) (i 1)

theorem final (c : Dev nD) : (dats m 0 c).arrAt 14 (cfgs 0).N = G m c := by
  refine (dats m 0 c).arrAt_eq_of_covers 14 _ (by decide +kernel) fun t hf y => ?_
  have h10 : t.val % 11 = 10 := (flush0_14 t).mp hf
  blk_simp
  rw [after0_14]
  idx_vars y
  refine (last_at m c t h10 y0 y1).trans ?_
  have e : (((View.whole main_v4).slice (win0_14.rect t)).emb (ix2 y0 y1) : S16384x2048.Idx)
      = ix2 ⟨t.val / 11 * 1024 + y0.val, row_lt t y0⟩ y1 := by
    blk_ext [idx14 t]
  exact (congrArg (G m c) e).symm

/-- The run: the result array holds `G`, the arguments are as launched. -/
theorem run (ρ : Dev nD → PrngReg) : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from run_main m ρ
  exact final m _

end Cert.FfnIdeal.Run
-- ==== Proof.Cast.Run.lean ====
module

public import proofs.«01_k».proof.Proof.Gen.CastIdeal.Value
public import proofs.«01_k».proof.Proof.Gen.CastReference.Run
public import proofs.«01_k».proof.Proof.Gen.CastReferenceIdeal.Run
public import Idealize.ShloMosaic.Lib.Pipeline.ValueKit
public import Idealize.ShloMosaic.Lib.VecWindow
public import Idealize.ShloMosaic.Lib.Pointwise

/-! The cast of the first layer's weights: what the kernel and the two references leave, over any floats. -/

@[expose] public section

noncomputable section
open Idealize.ShloMosaic Idealize.ShloMosaic.TcCoe Idealize.SL.Sem
open Idealize.ShloMosaic.Pipeline (Dat)

namespace Cert.CastSpec
variable {F : FTy → Type} [FloatOps F]

/-- The first layer's weights in bfloat16. -/
def layer (A : FVec F (⟨3, ![2, 2048, 5504]⟩ : Shape) .f32) : FVec F (⟨2, ![2048, 5504]⟩ : Shape) .bf16 :=
  fun i => FloatOps.truncf .bf16 (by decide) (A (ix3 0 (i 0) (i 1)))

end Cert.CastSpec

namespace Cert.CastIdeal.Run
open Cert.CastIdeal Cert.CastIdeal.Gen Cert.CastSpec
variable {F : FTy → Type} [FloatOps F]
variable (m : (ℓ : Loc nD τ sig) → Buf (Elt F) ℓ)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem row_lt (t : Fin cfg0.N) (y : Fin 256) : t.val * 256 + y.val < 2048 := by
  have h : t.val < 8 := lt_of_lt_of_eq t.isLt N_0
  omega

/-- A block of the operand is 256 rows of the first layer. -/
theorem b0 (c : Dev nD) (t : Fin cfg0.N) (y : Fin 256) (k : Fin 5504) :
    iblk m c 0 t (ix3 0 y k) = m ((c.tc : Thread nD τ).loc main_arg0) (ix3 0 ⟨t.val * 256 + y.val, row_lt t y⟩ k) := by
  blk_point [iblk, V, idx0 t]

/-- What the body leaves of its block, entry by entry. -/
theorem out_at (x0 : FVec F S1x256x5504 .f32) (r : Fin 256) (k : Fin 5504) :
    out0_1 (F := F) x0 (ix2 r k) = FloatOps.truncf .bf16 bitsLt_bf16_f32 (x0 (ix3 0 r k)) := by
  unfold out0_1
  rw [View.canon_cons_unit_zero (by decide), View.ld_unit_zero (by decide)]
  pointwise [k0_pay1]

theorem final (c : Dev nD) : (dats m 0 c).arrAt 1 (cfgs 0).N = layer (m ((c.tc : Thread nD τ).loc main_arg0)) := by
  refine (dats m 0 c).arrAt_eq_of_covers 1 _ (by decide +kernel) fun t hf y => ?_
  blk_simp
  rw [after0_1]
  idx_vars y
  refine (out_at _ y0 y1).trans ?_
  rw [b0 m c t y0 y1]
  have e : (((View.whole main_v0).slice (win0_1.rect t)).emb (ix2 y0 y1) : S2048x5504.Idx)
      = ix2 ⟨t.val * 256 + y0.val, row_lt t y0⟩ y1 := by
    blk_ext [idx1 t]
  exact (congrArg (layer (m ((c.tc : Thread nD τ).loc main_arg0))) e).symm

/-- The run: the result array holds the layer, the argument is as launched. -/
theorem run (ρ : Dev nD → PrngReg) : θ_run defs (onTc (τ := τ) (main (F := F))) ⟨m, fun _ => 0, ρ⟩ fun r => ∀ c : Dev nD,
      r.2.mem ((c.tc : Thread nD τ).loc main_v0) = layer (m ((c.tc : Thread nD τ).loc main_arg0))
      ∧ r.2.mem ((c.tc : Thread nD τ).loc main_arg0) = m ((c.tc : Thread nD τ).loc main_arg0) :=
  (θ_run defs _ _).mono (fun r h c => ⟨((h c).1).trans (final m c), (h c).2⟩) (Cert.CastIdeal.Value.run_blocks m ρ)

end Cert.CastIdeal.Run

namespace Cert.CastReference.Run
open Cert.CastReference Cert.CastSpec
variable {F : FTy → Type} [FloatOps F]
variable (m : (ℓ : Loc nD τ sig) → Buf (Elt F) ℓ)

theorem run (ρ : Dev nD → PrngReg) : θ_run defs (onTc (τ := τ) (main (F := F))) ⟨m, fun _ => 0, ρ⟩ fun r => ∀ c : Dev nD,
      r.2.mem ((c.tc : Thread nD τ).loc main_v2) = layer (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.CastReference.Value.run m ρ)
  funext i
  idx_vars i
  generalize m ((c.tc : Thread nD τ).loc main_arg0) = A
  show _ = FloatOps.truncf .bf16 (by decide) (A (ix3 0 i0 i1))
  pointwise

end Cert.CastReference.Run

namespace Cert.CastReferenceIdeal.Run
open Cert.CastReferenceIdeal Cert.CastSpec
variable {F : FTy → Type} [FloatOps F]
variable (m : (ℓ : Loc nD τ sig) → Buf (Elt F) ℓ)

theorem run (ρ : Dev nD → PrngReg) : θ_run defs (onTc (τ := τ) (main (F := F))) ⟨m, fun _ => 0, ρ⟩ fun r => ∀ c : Dev nD,
      r.2.mem ((c.tc : Thread nD τ).loc main_v2) = layer (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Cert.CastReferenceIdeal.Value.run m ρ)
  funext i
  idx_vars i
  generalize m ((c.tc : Thread nD τ).loc main_arg0) = A
  show _ = FloatOps.truncf .bf16 (by decide) (A (ix3 0 i0 i1))
  pointwise

end Cert.CastReferenceIdeal.Run
-- ==== Proof.Split.Run.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Claim
public import Idealize.ShloMosaic.Lib.VecWindow
public import Idealize.ShloMosaic.Lib.Pipeline.ValueKit

/-! The run of the column-group kernel: what its body stores at a grid point, and the launch. The gates' block is stored at the
    first point alone, kept through the others, and written back after the last. -/

@[expose] public section
set_option maxRecDepth 16384

noncomputable section
namespace Cert.KernelIdeal.Split
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body stores the gates where this holds: at the first point. -/
theorem first_iff : ∀ t : Fin cfg0.N, k0_cond1 (grid0.coords t) = 1#1 ↔ t.val = 0 :=
  (by decide +kernel : ∀ t : Fin grid0.N, _)

abbrev s0 (t : Fin cfg0.N) : Memref sig .tc .vmem S512x2048 .f32 := win0_0.stage (cfg0.slots t 0)
abbrev s1 (t : Fin cfg0.N) : Memref sig .tc .vmem S8x2048 .f32 := win0_1.stage (cfg0.slots t 1)
abbrev s2 (t : Fin cfg0.N) : Memref sig .tc .vmem S2048x512 .bf16 := win0_2.stage (cfg0.slots t 2)
abbrev s3 (t : Fin cfg0.N) : Memref sig .tc .vmem S2048x128 .bf16 := win0_3.stage (cfg0.slots t 3)

set_option maxHeartbeats 1000000 in
/-- The body at the first point: both outputs stored. -/
theorem body_first (c : Dev nD) (i : grid0.Coords) (a1 : Memref sig .tc .vmem S512x2048 .f32) (h1 : a1.IsWhole)
    (a2 : Memref sig .tc .vmem S8x2048 .f32) (h2 : a2.IsWhole) (a3 : Memref sig .tc .vmem S2048x512 .bf16) (h3 : a3.IsWhole)
    (a4 : Memref sig .tc .vmem S2048x128 .bf16) (h4 : a4.IsWhole) (hc : k0_cond1 i = 1#1)
    (x0 : Vec F S512x2048 .f32) (x1 : Vec F S8x2048 .f32) (E : Set ℕ) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (iprop(owns (c : Thread nD τ) a1 fullShare x0 ∗ owns (c : Thread nD τ) a2 fullShare x1
          ∗ owns (c : Thread nD τ) a3 fullShare (k0_pay1 x0) ∗ owns (c : Thread nD τ) a4 fullShare (k0_pay2 x1)) -∗ K ⟨⟩))
      ⊢ wp frame (wpE (defs₀ (F := F)) Variants.none c none) E (cc0_split_w_in i a1 h1 a2 h2 a3 h3 a4 h4) K := by
  simp only [cc0_split_w_in_eq_skeleton]; unfold cc0_split_w_in_skel
  unfold owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; refine (View.read_writes_full _ _ inb_S2048x512_S2048x512_0_0 _ _).trans ?_
    simp only [View.readAt_eq_ld, Memref.IsWhole.read_unread]; rw [View.ld_unit_zero (by decide)]
  iexists _; isplitr; swap; · iexact H3
  ipureintro; refine (View.read_writes_full _ _ inb_S2048x128_S2048x128_0_0 _ _).trans ?_
  simp only [View.readAt_eq_ld, Memref.IsWhole.read_unread]; rw [View.ld_unit_zero (by decide)]

set_option maxHeartbeats 1000000 in
/-- The body at a later point: the columns stored, the gates kept. -/
theorem body_rest (c : Dev nD) (i : grid0.Coords) (a1 : Memref sig .tc .vmem S512x2048 .f32) (h1 : a1.IsWhole)
    (a2 : Memref sig .tc .vmem S8x2048 .f32) (h2 : a2.IsWhole) (a3 : Memref sig .tc .vmem S2048x512 .bf16) (h3 : a3.IsWhole)
    (a4 : Memref sig .tc .vmem S2048x128 .bf16) (h4 : a4.IsWhole) (hc : ¬ k0_cond1 i = 1#1)
    (x0 : Vec F S512x2048 .f32) (P : sProp 𝕄) (E : Set ℕ) (K : PUnit → sProp 𝕄) :
    iprop(owns (c : Thread nD τ) a1 fullShare x0 ∗ (∃ d, owns (c : Thread nD τ) a3 fullShare d) ∗ P
        ∗ (iprop(owns (c : Thread nD τ) a1 fullShare x0 ∗ owns (c : Thread nD τ) a3 fullShare (k0_pay1 x0) ∗ P) -∗ K ⟨⟩))
      ⊢ wp frame (wpE (defs₀ (F := F)) Variants.none c none) E (cc0_split_w_in i a1 h1 a2 h2 a3 h3 a4 h4) K := by
  simp only [cc0_split_w_in_eq_skeleton]; unfold cc0_split_w_in_skel
  unfold owns
  iintro ⟨⟨%f0, %hf0, H0⟩, ⟨%d2, %f2, -, H2⟩, HP, Hk⟩
  obtain rfl := h1.eq_unread hf0
  sl_exec (disch := first | sl_exact hc)
  sl_step
  iapply Hk
  isplitl [H0]
  · iexists _; isplitr; · ipureintro; exact h1.read_unread _
    iexact H0
  isplitl [H2]
  · iexists _; isplitr; swap; · iexact H2
    ipureintro; refine (View.read_writes_full _ _ inb_S2048x512_S2048x512_0_0 _ _).trans ?_
    simp only [View.readAt_eq_ld, Memref.IsWhole.read_unread]; rw [View.ld_unit_zero (by decide)]
  iexact HP

/-- The proof data: after the body, each input's buffer at its block, the columns' at their payload, and the gates' at the payload of the
    gate rows, from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t)
    | ⟨3, _⟩ => k0_pay2 (iblk m c 1 t0_0)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (iblk m c 0 t) := by dsimp only [dats]
theorem after3 (c : Dev nD) (t : Fin cfg0.N) : (dats m 0 c).after 3 t = k0_pay2 (iblk m c 1 t0_0) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

theorem idle3 : ∀ t : Fin cfg0.N, cfg0.idle 3 (grid0.coords t) = decide (t.val ≠ 0) :=
  (by decide +kernel : ∀ t : Fin grid0.N, _)

theorem fresh3 : ∀ t : Fin cfg0.N, cfg0.fresh 3 t.val = decide (t.val = 0) := fun t => by
  have hN : t.val ≤ cfg0.N := t.isLt.le
  refine Pipeline.Cfg.fresh_tab cfg0 3 (fun n => decide (n = 0 ∨ n = 12)) (by decide) ?_ t.val hN |>.trans ?_
  · exact (by decide +kernel : ∀ t : Fin grid0.N, decide (t.val + 1 = 0 ∨ t.val + 1 = 12)
      = (win0_3.flush t || (idle0 3 (grid0.coords t) && decide (t.val = 0 ∨ t.val = 12))))
  · have h : t.val < 12 := lt_of_lt_of_eq t.isLt N_0
    congr 1; simp only [eq_iff_iff]; omega

/-- What the gates' buffer holds when the body runs past the first point. -/
theorem before3 (c : Dev nD) (t : Fin cfg0.N) (h : t.val ≠ 0) (d) : (dats m 0 c).before 3 t d = k0_pay2 (iblk m c 1 t0_0) := by
  rw [(dats m 0 c).before_out_traj 3 rfl (fun _ _ => rfl) (fun t _ _ _ => by rw [after3, after3]) t.val t rfl d, fresh3,
    if_neg (by simpa using h), after3]

def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (s0 t) fullShare (iblk m c 0 t) := by
  rw [show (dats m 0 c).leavesExact 0 t = owns (c : Thread nD τ) (s0 t) fullShare ((dats m 0 c).after 0 t) from rfl, after0]
theorem leaves1 (c : Dev nD) (t : Fin cfg0.N) : (dats m 0 c).leavesExact 1 t = owns (c : Thread nD τ) (s1 t) fullShare (iblk m c 1 t) := by
  rw [show (dats m 0 c).leavesExact 1 t = owns (c : Thread nD τ) (s1 t) fullShare ((dats m 0 c).after 1 t) from rfl, after1]
theorem leaves2 (c : Dev nD) (t : Fin cfg0.N) :
    (dats m 0 c).leavesExact 2 t = owns (c : Thread nD τ) (s2 t) fullShare (k0_pay1 (iblk m c 0 t)) := by
  rw [show (dats m 0 c).leavesExact 2 t = owns (c : Thread nD τ) (s2 t) fullShare ((dats m 0 c).after 2 t) from rfl, after2]

/-- Contents of the gates' buffer equal to the gates' payload are what the point is to leave. -/
theorem leaves3 (c : Dev nD) (t : Fin cfg0.N) :
    owns (c : Thread nD τ) (s3 t) fullShare (k0_pay2 (iblk m c 1 t0_0)) ⊢ ((dats m 0 c).leavesExact 3 t : sProp 𝕄) := by
  by_cases h : t.val = 0
  · rw [show (dats m 0 c).leavesExact 3 t = owns (c : Thread nD τ) (s3 t) fullShare ((dats m 0 c).after 3 t) from by
      unfold Dat.leavesExact; rw [show cfg0.idle 3 (cfg0.grid.coords t) = false from (idle3 t).trans (by simpa using h)], after3]
  · by_cases hf : (cfg0.win 3).flush t = true
    · rw [show (dats m 0 c).leavesExact 3 t = owns (c : Thread nD τ) (s3 t) fullShare ((dats m 0 c).after 3 t) from by
        unfold Dat.leavesExact; rw [show cfg0.idle 3 (cfg0.grid.coords t) = true from (idle3 t).trans (by simpa using h), hf], after3]
    · rw [(dats m 0 c).leavesExact_idle 3 t ((idle3 t).trans (by simpa using h)) (by simpa using hf)]
      iintro H
      iexists (fun _ => default)
      rw [before3 m c t h]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, leaves0, leaves1, leaves2]
  by_cases h : t.val = 0
  · obtain rfl : t = t0_0 := Fin.ext h
    iintro ⟨HΦ, Ho, ⟨%d0, H0⟩, ⟨%d1, H1⟩, ⟨%d2, H2⟩, ⟨%d3, H3⟩⟩
    iapply (body_first c (grid0.coords t0_0) _ _ _ _ _ _ _ _ ((first_iff t0_0).mpr h) (iblk m c 0 t0_0) (iblk m c 1 t0_0) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves3 m c t0_0)
    iexact H3
  · simp only [before3 m c t h]
    iintro ⟨HΦ, Ho, ⟨%d0, H0⟩, ⟨%d1, H1⟩, ⟨%d2, H2⟩, ⟨%d3, H3⟩⟩
    iapply (body_rest c (grid0.coords t) _ _ _ _ _ _ _ _ (fun e => h ((first_iff t).mp e)) (iblk m c 0 t)
      (owns (c : Thread nD τ) (s3 t) fullShare (k0_pay2 (iblk m c 1 t0_0))) Set.univ _)
    isplitl [H0]; · iexact H0
    isplitl [H2]; · iexists _; iexact H2
    isplitl [H3]; · iexact H3
    iintro ⟨H0, H2, H3⟩
    isplitl [HΦ]; · iexact HΦ
    isplitl [Ho]; · iexact Ho
    isplitl [H0]; · iexact H0
    isplitl [H1]; · iexact H1
    isplitl [H2]; · iexact H2
    iapply (leaves3 m c t)
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with each window's array at the proof data's contents, every other array as the region found it, and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The argument unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_post m ρ)) ((θ_run defs _ _).mono (fun _ h => h.2) (run_main m ρ))

end Cert.KernelIdeal.Split
end
-- ==== Proof.Split.Value.lean ====
module

public import proofs.«01_k».proof.Proof.Split.Run
public import proofs.«01_k».proof.Proof.Gen.ReferenceIdeal.Run
public import Idealize.ShloMosaic.Lib.Pointwise

/-! The column groups, entry by entry: what the kernel's arrays end with and what the reference's terms read are the same
    rounding of the same entry of the argument. -/

@[expose] public section
set_option maxRecDepth 16384

noncomputable section
open Idealize.ShloMosaic Idealize.ShloMosaic.TcCoe Idealize.SL.Sem
open Idealize.ShloMosaic.Pipeline (Dat)
namespace Cert.SplitSpec
variable {F : FTy → Type} [FloatOps F]
open Cert.KernelIdeal (S2x2048x6152 S2048x6144 S2048x128)

/-- The first column, in the argument, of each group of the result. -/
def start : Fin 12 → ℕ := ![0, 512, 2560, 3080, 3592, 4104, 1024, 1536, 2048, 4616, 5128, 5640]

theorem start_lt : ∀ g, start g + 512 ≤ 6152 := by decide

/-- The columns laid side by side, group after group, rounded. -/
def cols (A : FVec F S2x2048x6152 .f32) (r : Fin 2048) (g : Fin 12) (k : Fin 512) : F .bf16 :=
  FloatOps.truncf .bf16 Cert.KernelIdeal.Facts₀.bitsLt_bf16_f32 (A (ix3 1 r ⟨start g + k.val, by have := start_lt g; omega⟩))

/-- The same at the result's own columns. -/
def wide (A : FVec F S2x2048x6152 .f32) (r : Fin 2048) (k : Fin 6144) : F .bf16 :=
  cols A r ⟨k.val / 512, by omega⟩ ⟨k.val % 512, by omega⟩

/-- The gates, padded with zeros, rounded. -/
def gates (A : FVec F S2x2048x6152 .f32) (r : Fin 2048) (k : Fin 128) : F .bf16 :=
  FloatOps.truncf .bf16 Cert.KernelIdeal.Facts₀.bitsLt_bf16_f32
    (if h : k.val < 8 then A (ix3 1 r ⟨3072 + k.val, by omega⟩) else Scalar.ofBits .f32 0x00000000#32)

end Cert.SplitSpec

namespace Cert.KernelIdeal.Split
open Cert.KernelIdeal Cert.KernelIdeal.Gen Cert.SplitSpec
variable {F : FTy → Type} [FloatOps F]
variable (m : (ℓ : Loc nD τ sig) → Buf (Elt F) ℓ)

theorem pay1_at (x : FVec F S512x2048 .f32) (r : Fin 2048) (k : Fin 512) :
    k0_pay1 x (ix2 r k) = FloatOps.truncf .bf16 bitsLt_bf16_f32 (x (ix2 k r)) := by
  pointwise [k0_pay1]
  trace_state

theorem pay2_at (x : FVec F S8x2048 .f32) (r : Fin 2048) (k : Fin 128) :
    k0_pay2 x (ix2 r k) = FloatOps.truncf .bf16 bitsLt_bf16_f32 (if h : k.val < 8 then x (ix2 ⟨k.val, h⟩ r) else Scalar.ofBits .f32 0x00000000#32) := by
  pointwise [k0_pay2]
  trace_state

theorem off0 : ∀ t : Fin cfg0.N, win0_0.index t = ![6152 + start (t.cast N_0), 0] := (by decide +kernel : ∀ t : Fin grid0.N, _)

theorem off1 : ∀ t : Fin cfg0.N, win0_1.index t = ![9224, 0] := (by decide +kernel : ∀ t : Fin grid0.N, _)

/-- Where the entries of the input blocks stand in the transposed, flattened argument. -/
theorem emb00 (t : Fin cfg0.N) (k : Fin 512) (r : Fin 2048) :
    (((View.whole main_v1).slice (win0_0.rect t)).emb (ix2 k r) 0).val = 6152 + start (t.cast N_0) + k.val :=
  (Pipeline.Window.rect_emb_val_off win0_0 t _ 0).trans (by rw [off0]; rfl)
theorem emb01 (t : Fin cfg0.N) (k : Fin 512) (r : Fin 2048) :
    (((View.whole main_v1).slice (win0_0.rect t)).emb (ix2 k r) 1).val = r.val :=
  (Pipeline.Window.rect_emb_val_off win0_0 t _ 1).trans (by rw [off0]; exact Nat.zero_add _)
theorem emb10 (t : Fin cfg0.N) (k : Fin 8) (r : Fin 2048) :
    (((View.whole main_v1).slice (win0_1.rect t)).emb (ix2 k r) 0).val = 9224 + k.val :=
  (Pipeline.Window.rect_emb_val_off win0_1 t _ 0).trans (by rw [off1]; rfl)
theorem emb11 (t : Fin cfg0.N) (k : Fin 8) (r : Fin 2048) :
    (((View.whole main_v1).slice (win0_1.rect t)).emb (ix2 k r) 1).val = r.val :=
  (Pipeline.Window.rect_emb_val_off win0_1 t _ 1).trans (by rw [off1]; exact Nat.zero_add _)

theorem b0' (c : Dev nD) (t : Fin cfg0.N) (k : Fin 512) (r : Fin 2048) (s : ℕ) (hs : start (t.cast N_0) = s) (h : s + k.val < 6152) :
    iblk m c 0 t (ix2 k r) = m ((c.tc : Thread nD τ).loc main_arg0) (ix3 1 r ⟨s + k.val, h⟩) := by
  have e0 := emb00 t k r
  have e1 := emb01 t k r
  rw [hs] at e0
  blk_point [iblk, V]
  all_goals omega

theorem b0 (c : Dev nD) (t : Fin cfg0.N) (k : Fin 512) (r : Fin 2048) :
    iblk m c 0 t (ix2 k r) = m ((c.tc : Thread nD τ).loc main_arg0) (ix3 1 r ⟨start (t.cast N_0) + k.val, by have := start_lt (t.cast N_0); omega⟩) :=
  b0' m c t k r _ rfl _

theorem b1 (c : Dev nD) (t : Fin cfg0.N) (k : Fin 8) (r : Fin 2048) :
    iblk m c 1 t (ix2 k r) = m ((c.tc : Thread nD τ).loc main_arg0) (ix3 1 r ⟨3072 + k.val, by omega⟩) := by
  have e0 := emb10 t k r
  have e1 := emb11 t k r
  blk_point [iblk, V]
  all_goals omega

theorem pay2_b (c : Dev nD) (t : Fin cfg0.N) (r : Fin 2048) (k : Fin 128) :
    k0_pay2 (iblk m c 1 t) (ix2 r k) = gates (m ((c.tc : Thread nD τ).loc main_arg0)) r k := by
  refine (pay2_at _ r k).trans ?_
  unfold gates
  split_ifs with h
  · rw [b1]
  · rfl

theorem idx2 : ∀ t : Fin cfg0.N, win0_2.index t = ![0, t.val] := (by decide +kernel : ∀ t : Fin grid0.N, _)
theorem idx3 : ∀ t : Fin cfg0.N, win0_3.index t = ![0, 0] := (by decide +kernel : ∀ t : Fin grid0.N, _)

/-- The columns' array after the run. -/
theorem cols_final (c : Dev nD) : (dats m 0 c).arrAt 2 (cfgs 0).N = fun i : S2048x6144.Idx => wide (m ((c.tc : Thread nD τ).loc main_arg0)) (i 0) (i 1) := by
  refine (dats m 0 c).arrAt_eq_of_covers 2 _ (by decide +kernel) fun t hf y => ?_
  blk_simp
  rw [after2]
  idx_vars y
  have e : (((View.whole main_v2_0).slice (win0_2.rect t)).emb (ix2 y0 y1) : S2048x6144.Idx)
      = ix2 y0 ⟨512 * t.val + y1.val, by have := lt_of_lt_of_eq t.isLt N_0; omega⟩ := by
    blk_ext [idx2 t]
  refine (pay1_at _ y0 y1).trans ?_
  rw [b0]
  refine Eq.trans ?_ (congrArg (fun i : S2048x6144.Idx => wide (m ((c.tc : Thread nD τ).loc main_arg0)) (i 0) (i 1)) e).symm
  unfold wide cols
  have h1 : (512 * t.val + y1.val) / 512 = t.val := by omega
  have h2 : (512 * t.val + y1.val) % 512 = y1.val := by omega
  simp only [ix2_0, ix2_1, h1, h2]
  rfl

/-- The gates' array after the run. -/
theorem gates_final (c : Dev nD) : (dats m 0 c).arrAt 3 (cfgs 0).N = fun i : S2048x128.Idx => gates (m ((c.tc : Thread nD τ).loc main_arg0)) (i 0) (i 1) := by
  refine (dats m 0 c).arrAt_eq_of_covers 3 _ (by decide +kernel) fun t hf y => ?_
  blk_simp
  rw [after3]
  idx_vars y
  have e : (((View.whole main_v2_1).slice (win0_3.rect t)).emb (ix2 y0 y1) : S2048x128.Idx) = ix2 y0 y1 := by
    blk_ext [idx3 t]
  refine (pay2_b m c t0_0 y0 y1).trans ?_
  exact (congrArg (fun i : S2048x128.Idx => gates (m ((c.tc : Thread nD τ).loc main_arg0)) (i 0) (i 1)) e).symm

theorem run (ρ : Dev nD → PrngReg) :
    θ_run defs (onTc (τ := τ) (main (F := F))) ⟨m, fun _ => 0, ρ⟩ fun r => ∀ c : Dev nD,
      r.2.mem ((c.tc : Thread nD τ).loc main_v2_0) = (fun i : S2048x6144.Idx => wide (m ((c.tc : Thread nD τ).loc main_arg0)) (i 0) (i 1))
      ∧ r.2.mem ((c.tc : Thread nD τ).loc main_v2_1) = (fun i : S2048x128.Idx => gates (m ((c.tc : Thread nD τ).loc main_arg0)) (i 0) (i 1))
      ∧ r.2.mem ((c.tc : Thread nD τ).loc main_arg0) = m ((c.tc : Thread nD τ).loc main_arg0) :=
  (θ_run defs _ _).mono (fun r h c => ⟨((h.1 c).1 2).trans (cols_final m c), ((h.1 c).1 3).trans (gates_final m c), h.2 c⟩)
    (θ_run_and (run_post m ρ) (frame_of m ρ (dats m) (A_eq m) (run_post m ρ)))

end Cert.KernelIdeal.Split

namespace Cert.ReferenceIdeal.Split
open Cert.ReferenceIdeal Cert.ReferenceIdeal.Gen Cert.SplitSpec
variable {F : FTy → Type} [FloatOps F]
variable (m : (ℓ : Loc nD τ sig) → Buf (Elt F) ℓ)

variable (p0 p1 p2 p3 p4 p5 p6 p7 p8 p9 p10 p11 : FVec F S2048x512 .f32)
/-- Twelve pieces side by side, read at a column of piece `g`. -/
theorem cat_at (r : Fin 2048) (g : Fin 12) (k : Fin 512) :
    concatenate S2048x6144 1 [⟨S2048x512, p0⟩, ⟨S2048x512, p1⟩, ⟨S2048x512, p2⟩, ⟨S2048x512, p3⟩, ⟨S2048x512, p4⟩, ⟨S2048x512, p5⟩,
      ⟨S2048x512, p6⟩, ⟨S2048x512, p7⟩, ⟨S2048x512, p8⟩, ⟨S2048x512, p9⟩, ⟨S2048x512, p10⟩, ⟨S2048x512, p11⟩]
      concatenates_S2048x512_S2048x512_S2048x512_S2048x512_S2048x512_S2048x512_S2048x512_S2048x512_S2048x512_S2048x512_S2048x512_S2048x512_S2048x6144_d1
      (ix2 r (⟨512 * g.val + k.val, by omega⟩ : Fin 6144))
      = (![p0, p1, p2, p3, p4, p5, p6, p7, p8, p9, p10, p11] g) (ix2 r k) := by
  refine concatenate_ofFn_apply (t := S2048x6144) (s₁ := S2048x512) 1 ![p0, p1, p2, p3, p4, p5, p6, p7, p8, p9, p10, p11] _ rfl 512 rfl
    (ix2 r (⟨512 * g.val + k.val, by omega⟩ : Fin 6144)) g ?_ (ix2 r k) ?_ ?_
  · show (512 * g.val + k.val) / 512 = g.val
    omega
  · show k.val = (512 * g.val + k.val) % 512
    omega
  · intro b hb
    match b, hb with
    | ⟨0, _⟩, _ => rfl
    | ⟨1, _⟩, hb => exact absurd rfl hb

/-- A slice of the layer's weight. -/
theorem piece_at (A : FVec F S2x2048x6152 .f32) (o : ℕ) (hs : S2048x6152.Slices ![0, o] S2048x512) (r : Fin 2048) (k : Fin 512) (h : o + k.val < 6152) :
    extractStridedSlice S2048x512 ![0, o] (shapeCast S2048x6152 (extractStridedSlice S1x2048x6152 ![1, 0, 0] A
      slices_S2x2048x6152_S1x2048x6152_1_0_0) shapeCasts_S1x2048x6152_S2048x6152) hs (ix2 r k) = A (ix3 1 r ⟨o + k.val, h⟩) := by
  pointwise

theorem wide_at (c : Dev nD) (r : Fin 2048) (k : Fin 6144) :
    Cert.ReferenceIdeal.Value.res_main_v19 m c (ix2 r k) = wide (m ((c.tc : Thread nD τ).loc main_arg0)) r k := by
  unfold Cert.ReferenceIdeal.Value.res_main_v19
  generalize m ((c.tc : Thread nD τ).loc main_arg0) = A
  obtain ⟨g, k', h, rfl⟩ : ∃ (g : Fin 12) (k' : Fin 512) (h : 512 * g.val + k'.val < 6144), k = ⟨512 * g.val + k'.val, h⟩ :=
    ⟨⟨k.val / 512, by omega⟩, ⟨k.val % 512, by omega⟩, by simp only; omega, Fin.ext (by simp only; omega)⟩
  have hw : wide A r ⟨512 * g.val + k'.val, h⟩ = cols A r g k' := by
    have h1 : (512 * g.val + k'.val) / 512 = g.val := by omega
    have h2 : (512 * g.val + k'.val) % 512 = k'.val := by omega
    unfold wide
    simp only [h1, h2]
  rw [hw]
  unfold cols
  refine congrArg (FloatOps.truncf .bf16 bitsLt_bf16_f32) ?_
  refine (cat_at _ _ _ _ _ _ _ _ _ _ _ _ r g k').trans ?_
  clear hw
  obtain ⟨g, hg⟩ := g
  interval_cases g
  · exact piece_at A 0 slices_S2048x6152_S2048x512_0_0 r k' (by omega)
  · exact piece_at A 512 slices_S2048x6152_S2048x512_0_512 r k' (by omega)
  · exact piece_at A 2560 slices_S2048x6152_S2048x512_0_2560 r k' (by omega)
  · exact piece_at A 3080 slices_S2048x6152_S2048x512_0_3080 r k' (by omega)
  · exact piece_at A 3592 slices_S2048x6152_S2048x512_0_3592 r k' (by omega)
  · exact piece_at A 4104 slices_S2048x6152_S2048x512_0_4104 r k' (by omega)
  · exact piece_at A 1024 slices_S2048x6152_S2048x512_0_1024 r k' (by omega)
  · exact piece_at A 1536 slices_S2048x6152_S2048x512_0_1536 r k' (by omega)
  · exact piece_at A 2048 slices_S2048x6152_S2048x512_0_2048 r k' (by omega)
  · exact piece_at A 4616 slices_S2048x6152_S2048x512_0_4616 r k' (by omega)
  · exact piece_at A 5128 slices_S2048x6152_S2048x512_0_5128 r k' (by omega)
  · exact piece_at A 5640 slices_S2048x6152_S2048x512_0_5640 r k' (by omega)

theorem run (ρ : Dev nD → PrngReg) :
    θ_run defs (onTc (τ := τ) (main (F := F))) ⟨m, fun _ => 0, ρ⟩ fun r => ∀ c : Dev nD,
      r.2.mem ((c.tc : Thread nD τ).loc main_v19) = (fun i : S2048x6144.Idx => wide (m ((c.tc : Thread nD τ).loc main_arg0)) (i 0) (i 1))
      ∧ r.2.mem ((c.tc : Thread nD τ).loc main_v20) = (fun i : S2048x128.Idx => gates (m ((c.tc : Thread nD τ).loc main_arg0)) (i 0) (i 1))
      ∧ r.2.mem ((c.tc : Thread nD τ).loc main_arg0) = m ((c.tc : Thread nD τ).loc main_arg0) := by
  refine (θ_run defs _ _).mono (fun r h c => ⟨(h c).1.trans ?_, (h c).2.1.trans ?_, (h c).2.2⟩) (Cert.ReferenceIdeal.Value.run m ρ)
  · funext i
    idx_vars i
    exact wide_at m c i0 i1
  · funext i
    idx_vars i
    generalize m ((c.tc : Thread nD τ).loc main_arg0) = A
    show _ = gates A i0 i1
    unfold gates
    pointwise
    refine congrArg (FloatOps.truncf .bf16 bitsLt_bf16_f32) ?_
    by_cases h1 : i1.val < 4
    · rw [dif_pos h1, dif_pos (show i1.val < 8 by omega)]
    · by_cases h2 : i1.val - 4 < 4
      · rw [dif_neg h1, dif_pos h2, dif_pos (show i1.val < 8 by omega)]
        exact congrArg (fun z => A (ix3 1 i0 z)) (Fin.ext (by simp only; omega))
      · rw [dif_neg h1, dif_neg h2, dif_neg (show ¬ i1.val < 8 by omega)]

end Cert.ReferenceIdeal.Split
-- ==== Proof.Inproj.Run.lean ====
module

public import proofs.«01_k».proof.Proof.Gen.InprojIdeal.Frame
public import proofs.«01_k».proof.Proof.Gen.InprojIdeal.Skeleton
public import Idealize.ShloMosaic.Lib.Pipeline.TableIdle
public import Idealize.ShloMosaic.Lib.Claim
public import Idealize.ShloMosaic.Lib.VecWindow
public import Idealize.ShloMosaic.Lib.Pipeline.ValueKit

/-! The run of the input projection's kernel: what its body stores at a grid point, and the launch. A row block's normalised rows are
    stored in the scratch at the block's first point and read at its other points; the two gate outputs are stored at the first point
    alone, kept through the others, and written back after the block's last. -/

@[expose] public section
set_option maxRecDepth 16384

noncomputable section
namespace Cert.InprojIdeal.Proj
open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body normalises the rows and stores the gates where this holds: at a row block's first point. -/
theorem first_iff : ∀ t : Fin cfg0.N, k0_cond1 (grid0.coords t) = 1#1 ↔ t.val % 6 = 0 :=
  (by decide +kernel : ∀ t : Fin grid0.N, _)

abbrev s0 (t : Fin cfg0.N) : Memref sig .tc .vmem S1024x2048 .f32 := win0_0.stage (cfg0.slots t 0)
abbrev s1 (t : Fin cfg0.N) : Memref sig .tc .vmem S1x2048 .f32 := win0_1.stage (cfg0.slots t 1)
abbrev s2 (t : Fin cfg0.N) : Memref sig .tc .vmem S2048x512 .bf16 := win0_2.stage (cfg0.slots t 2)
abbrev s3 (t : Fin cfg0.N) : Memref sig .tc .vmem S2048x512 .bf16 := win0_3.stage (cfg0.slots t 3)
abbrev s4 (t : Fin cfg0.N) : Memref sig .tc .vmem S1x512 .f32 := win0_4.stage (cfg0.slots t 4)
abbrev s5 (t : Fin cfg0.N) : Memref sig .tc .vmem S2048x128 .bf16 := win0_5.stage (cfg0.slots t 5)
abbrev s6 (t : Fin cfg0.N) : Memref sig .tc .vmem S1024x512 .f32 := win0_6.stage (cfg0.slots t 6)
abbrev s7 (t : Fin cfg0.N) : Memref sig .tc .vmem S1024x512 .bf16 := win0_7.stage (cfg0.slots t 7)
abbrev s8 (t : Fin cfg0.N) : Memref sig .tc .vmem S1024x128 .f32 := win0_8.stage (cfg0.slots t 8)
abbrev s9 (t : Fin cfg0.N) : Memref sig .tc .vmem S16x1024 .f32 := win0_9.stage (cfg0.slots t 9)
theorem hz2 : (![0, 0] : Fin 2 → ℕ) = fun _ => 0 := by decide

/-- The scratch that carries a row block's normalised rows. -/
abbrev sc : Memref sig .tc .vmem S1024x2048 .bf16 := Memref.whole cc0_scratch0

/-- The invariant the region starts from: the scratch at some contents, the generator register at some state. -/
theorem PhiA_eq (c : Dev nD) :
    (Pipeline.ΦA spec0 c : sProp 𝕄)
      = iprop(iprop((∃ d, owns (c : Thread nD τ) sc fullShare d)) ∗ (∃ r, prngReg c r)) := by
  unfold Pipeline.ΦA; rw [scopedRest0_eq]; simp only [sc, owns_whole]; try rfl

set_option maxHeartbeats 4000000 in
/-- The body at a row block's first point: every output and the scratch stored. -/
theorem body_first (c : Dev nD) (i : grid0.Coords) (a0 : Memref sig .tc .vmem S1024x2048 .f32) (h0 : a0.IsWhole)
    (a1 : Memref sig .tc .vmem S1x2048 .f32) (h1 : a1.IsWhole)
    (a2 : Memref sig .tc .vmem S2048x512 .bf16) (h2 : a2.IsWhole)
    (a3 : Memref sig .tc .vmem S2048x512 .bf16) (h3 : a3.IsWhole)
    (a4 : Memref sig .tc .vmem S1x512 .f32) (h4 : a4.IsWhole)
    (a5 : Memref sig .tc .vmem S2048x128 .bf16) (h5 : a5.IsWhole)
    (a6 : Memref sig .tc .vmem S1024x512 .f32) (h6 : a6.IsWhole)
    (a7 : Memref sig .tc .vmem S1024x512 .bf16) (h7 : a7.IsWhole)
    (a8 : Memref sig .tc .vmem S1024x128 .f32) (h8 : a8.IsWhole)
    (a9 : Memref sig .tc .vmem S16x1024 .f32) (h9 : a9.IsWhole)
    (a10 : Memref sig .tc .vmem S1024x2048 .bf16) (h10 : a10.IsWhole)
    (hc : k0_cond1 i = 1#1)
    (x0 : Vec F S1024x2048 .f32) (x1 : Vec F S1x2048 .f32) (x2 : Vec F S2048x512 .bf16) (x3 : Vec F S2048x512 .bf16) (x4 : Vec F S1x512 .f32) (x5 : Vec F S2048x128 .bf16) (E : Set ℕ) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (∃ d, owns (c : Thread nD τ) a10 fullShare d)
        ∗ (iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare (k0_pay5 (k0_pay2 x0 x1) x2)
        ∗ owns (c : Thread nD τ) a7 fullShare (k0_pay6 (k0_pay2 x0 x1) x3 x4)
        ∗ owns (c : Thread nD τ) a8 fullShare (k0_pay3 x0 x1 x5)
        ∗ owns (c : Thread nD τ) a9 fullShare (k0_pay4 x0 x1 x5)
        ∗ owns (c : Thread nD τ) a10 fullShare (k0_pay2 x0 x1)) -∗ K ⟨⟩))
      ⊢ wp frame (wpE (defs₀ (F := F)) Variants.none c none) E (cc0_inproj i a0 h0 a1 h1 a2 h2 a3 h3 a4 h4 a5 h5 a6 h6 a7 h7 a8 h8 a9 h9 a10 h10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro; refine (View.read_writes_full _ _ inb_S1024x512_S1024x512_0_0 _ _).trans ?_
    unfold body_first.sl.v3 body_first.sl.H10_1
    rw [View.readCov_full]
    simp only [View.readAt_eq_ld, Memref.IsWhole.read_unread]
    repeat rw [View.ld_unit_zero (by decide)]
  isplitl [H7]
  · iexists _; isplitr; swap; · iexact H7
    ipureintro; refine (View.read_writes_full _ _ inb_S1024x512_S1024x512_0_0 _ _).trans ?_
    unfold body_first.sl.v3 body_first.sl.H10_1
    rw [View.readCov_full]
    simp only [View.readAt_eq_ld, Memref.IsWhole.read_unread]
    repeat rw [View.ld_unit_zero (by decide)]
  isplitl [H8]
  · iexists _; isplitr; swap; · iexact H8
    ipureintro; refine (View.read_writes_full _ _ inb_S1024x128_S1024x128_0_0 _ _).trans ?_
    simp only [View.readAt_eq_ld, Memref.IsWhole.read_unread]
    repeat rw [View.ld_unit_zero (by decide)]
  isplitl [H9]
  · iexists _; isplitr; swap; · iexact H9
    ipureintro; refine (View.read_writes_full _ _ inb_S16x1024_S16x1024_0_0 _ _).trans ?_
    simp only [View.readAt_eq_ld, Memref.IsWhole.read_unread]
    repeat rw [View.ld_unit_zero (by decide)]
  iexists _; isplitr; swap; · iexact H10
  ipureintro; refine (View.read_writes_full _ _ inb_S1024x2048_S1024x2048_0_0 _ _).trans ?_
  simp only [View.readAt_eq_ld, Memref.IsWhole.read_unread]
  repeat rw [View.ld_unit_zero (by decide)]

set_option maxHeartbeats 4000000 in
/-- The body at a row block's other points: the two projections stored from the scratch's rows, the rest kept. -/
theorem body_rest (c : Dev nD) (i : grid0.Coords) (a0 : Memref sig .tc .vmem S1024x2048 .f32) (h0 : a0.IsWhole)
    (a1 : Memref sig .tc .vmem S1x2048 .f32) (h1 : a1.IsWhole)
    (a2 : Memref sig .tc .vmem S2048x512 .bf16) (h2 : a2.IsWhole)
    (a3 : Memref sig .tc .vmem S2048x512 .bf16) (h3 : a3.IsWhole)
    (a4 : Memref sig .tc .vmem S1x512 .f32) (h4 : a4.IsWhole)
    (a5 : Memref sig .tc .vmem S2048x128 .bf16) (h5 : a5.IsWhole)
    (a6 : Memref sig .tc .vmem S1024x512 .f32) (h6 : a6.IsWhole)
    (a7 : Memref sig .tc .vmem S1024x512 .bf16) (h7 : a7.IsWhole)
    (a8 : Memref sig .tc .vmem S1024x128 .f32) (h8 : a8.IsWhole)
    (a9 : Memref sig .tc .vmem S16x1024 .f32) (h9 : a9.IsWhole)
    (a10 : Memref sig .tc .vmem S1024x2048 .bf16) (h10 : a10.IsWhole)
    (hc : ¬ k0_cond1 i = 1#1)
    (x2 : Vec F S2048x512 .bf16) (x3 : Vec F S2048x512 .bf16) (x4 : Vec F S1x512 .f32) (y : Vec F S1024x2048 .bf16) (P : sProp 𝕄) (E : Set ℕ) (K : PUnit → sProp 𝕄) :
    iprop(owns (c : Thread nD τ) a2 fullShare x2
        ∗ owns (c : Thread nD τ) a3 fullShare x3
        ∗ owns (c : Thread nD τ) a4 fullShare x4
        ∗ (∃ d, owns (c : Thread nD τ) a6 fullShare d)
        ∗ (∃ d, owns (c : Thread nD τ) a7 fullShare d)
        ∗ owns (c : Thread nD τ) a10 fullShare y
        ∗ P
        ∗ (iprop(owns (c : Thread nD τ) a2 fullShare x2
        ∗ owns (c : Thread nD τ) a3 fullShare x3
        ∗ owns (c : Thread nD τ) a4 fullShare x4
        ∗ owns (c : Thread nD τ) a6 fullShare (k0_pay5 y x2)
        ∗ owns (c : Thread nD τ) a7 fullShare (k0_pay6 y x3 x4)
        ∗ owns (c : Thread nD τ) a10 fullShare y
        ∗ P) -∗ K ⟨⟩))
      ⊢ wp frame (wpE (defs₀ (F := F)) Variants.none c none) E (cc0_inproj i a0 h0 a1 h1 a2 h2 a3 h3 a4 h4 a5 h5 a6 h6 a7 h7 a8 h8 a9 h9 a10 h10) K := by
  simp only [cc0_inproj_eq_skeleton]; unfold cc0_inproj_skel
  unfold owns
  iintro ⟨⟨%f2, %hf2, H2⟩, ⟨%f3, %hf3, H3⟩, ⟨%f4, %hf4, H4⟩, ⟨%d6, %f6, -, H6⟩, ⟨%d7, %f7, -, H7⟩, ⟨%f10, %hf10, H10⟩, HP, Hk⟩
  obtain rfl := h2.eq_unread hf2; obtain rfl := h3.eq_unread hf3; obtain rfl := h4.eq_unread hf4; obtain rfl := h10.eq_unread hf10
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H6]
  · iexists _; isplitr; swap; · iexact H6
    ipureintro; refine (View.read_writes_full _ _ inb_S1024x512_S1024x512_0_0 _ _).trans ?_
    simp only [View.readAt_eq_ld, Memref.IsWhole.read_unread]
    repeat rw [View.ld_unit_zero (by decide)]
  isplitl [H7]
  · iexists _; isplitr; swap; · iexact H7
    ipureintro; refine (View.read_writes_full _ _ inb_S1024x512_S1024x512_0_0 _ _).trans ?_
    simp only [View.readAt_eq_ld, Memref.IsWhole.read_unread]
    repeat rw [View.ld_unit_zero (by decide)]
  isplitl [H10]
  · iexists _; isplitr; · ipureintro; exact h10.read_unread _
    iexact H10
  iexact HP

/-- The first point of `t`'s row block. -/
def top (t : Fin cfg0.N) : Fin cfg0.N := ⟨t.val / 6 * 6, lt_of_le_of_lt (Nat.div_mul_le_self _ _) t.isLt⟩

theorem top_first (t : Fin cfg0.N) (h : t.val % 6 = 0) : top t = t := Fin.ext (by unfold top; dsimp only; omega)
theorem top_congr (s t : Fin cfg0.N) (h : s.val / 6 = t.val / 6) : top s = top t := Fin.ext (by unfold top; dsimp only; rw [h])

/-- The normalised rows of `t`'s row block, in bf16. -/
def hB (c : Dev nD) (t : Fin cfg0.N) : FVec F S1024x2048 .bf16 := k0_pay2 (iblk m c 0 (top t)) (iblk m c 1 (top t))
/-- The gates of `t`'s row block, and their first sixteen columns as rows. -/
def gB (c : Dev nD) (t : Fin cfg0.N) : FVec F S1024x128 .f32 := k0_pay3 (iblk m c 0 (top t)) (iblk m c 1 (top t)) (iblk m c 5 (top t))
def gR (c : Dev nD) (t : Fin cfg0.N) : FVec F S16x1024 .f32 := k0_pay4 (iblk m c 0 (top t)) (iblk m c 1 (top t)) (iblk m c 5 (top t))

theorem hB_congr (c : Dev nD) (s t : Fin cfg0.N) (h : s.val / 6 = t.val / 6) : hB m c s = hB m c t := by unfold hB; rw [top_congr s t h]
theorem gB_congr (c : Dev nD) (s t : Fin cfg0.N) (h : s.val / 6 = t.val / 6) : gB m c s = gB m c t := by unfold gB; rw [top_congr s t h]
theorem gR_congr (c : Dev nD) (s t : Fin cfg0.N) (h : s.val / 6 = t.val / 6) : gR m c s = gR m c t := by unfold gR; rw [top_congr s t h]

/-- The invariant before position `n`: after a point, the scratch holds that point's row block, normalised. -/
def PhiS (c : Dev nD) : (n : ℕ) → n ≤ cfg0.N → sProp 𝕄
  | 0, _ => Pipeline.ΦA spec0 c
  | n + 1, hn => iprop(iprop(owns (c : Thread nD τ) sc fullShare (hB m c ⟨n, hn⟩)) ∗ (∃ r, prngReg c r))

theorem PhiS_succ (c : Dev nD) (n : ℕ) (hn : n < cfg0.N) :
    PhiS m c (n + 1) hn = iprop(iprop(owns (c : Thread nD τ) sc fullShare (hB m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) sc fullShare (hB m c ⟨n - 1, by omega⟩)) ∗ (∃ r, prngReg c r)) := by
  cases n with
  | zero => exact absurd rfl hz
  | succ n => rfl

/-- Whatever the position, the scratch at some contents and the register at some state. -/
theorem PhiS_any (c : Dev nD) (n : ℕ) (h : n ≤ cfg0.N) :
    PhiS m c n h ⊢ iprop(iprop((∃ d, owns (c : Thread nD τ) sc fullShare d)) ∗ (∃ r, prngReg c r)) := by
  cases n with
  | zero => rw [show PhiS m c 0 h = Pipeline.ΦA spec0 c from rfl, PhiA_eq]
  | succ n =>
    rw [PhiS_succ]
    iintro ⟨Hs, Hg⟩
    isplitl [Hs]; · iexists _; iexact Hs
    iexact Hg

/-- The proof data: after the body, each input's buffer at its block, the projections' at their payloads of the row block's normalised
    rows, and the gates' at theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (hB m c t) (iblk m c 2 t)
    | ⟨7, _⟩ => k0_pay6 (hB m c t) (iblk m c 3 t) (iblk m c 4 t)
    | ⟨8, _⟩ => gB m c t
    | ⟨9, _⟩ => gR m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay5 (hB m c t) (iblk m c 2 t) := by dsimp only [dats]
theorem after7 (c : Dev nD) (t : Fin cfg0.N) : (dats m 0 c).after 7 t = k0_pay6 (hB m c t) (iblk m c 3 t) (iblk m c 4 t) := by dsimp only [dats]
theorem after8 (c : Dev nD) (t : Fin cfg0.N) : (dats m 0 c).after 8 t = gB m c t := by dsimp only [dats]
theorem after9 (c : Dev nD) (t : Fin cfg0.N) : (dats m 0 c).after 9 t = gR m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem idle8 : ∀ t : Fin cfg0.N, cfg0.idle 8 (grid0.coords t) = decide (t.val % 6 ≠ 0) :=
  (by decide +kernel : ∀ t : Fin grid0.N, _)

theorem fresh8 : ∀ t : Fin cfg0.N, cfg0.fresh 8 t.val = decide (t.val % 6 = 0) := fun t => by
  have hN : t.val ≤ cfg0.N := t.isLt.le
  refine Pipeline.Cfg.fresh_tab cfg0 8 (fun n => decide (n % 6 = 0)) (by decide) ?_ t.val hN |>.trans rfl
  exact (by decide +kernel : ∀ t : Fin grid0.N, decide ((t.val + 1) % 6 = 0)
    = (win0_8.flush t || (idle0 8 (grid0.coords t) && decide (t.val % 6 = 0))))

theorem before8 (c : Dev nD) (t : Fin cfg0.N) (h : t.val % 6 ≠ 0) (d) : (dats m 0 c).before 8 t d = gB m c t := by
  have hN : t.val < 96 := lt_of_lt_of_eq t.isLt N_0
  rw [(dats m 0 c).before_out_traj 8 rfl (fun _ _ => rfl) (fun s h0 h1 h2 => by
    rw [after8, after8]
    exact gB_congr m c _ _ (by have e := of_decide_eq_true ((idle8 s).symm.trans h1); dsimp only; omega)) t.val t rfl d, fresh8,
    if_neg (by simpa using h), after8]
  exact gB_congr m c _ _ (by dsimp only; omega)

theorem idle9 : ∀ t : Fin cfg0.N, cfg0.idle 9 (grid0.coords t) = decide (t.val % 6 ≠ 0) :=
  (by decide +kernel : ∀ t : Fin grid0.N, _)

theorem fresh9 : ∀ t : Fin cfg0.N, cfg0.fresh 9 t.val = decide (t.val % 6 = 0) := fun t => by
  have hN : t.val ≤ cfg0.N := t.isLt.le
  refine Pipeline.Cfg.fresh_tab cfg0 9 (fun n => decide (n % 6 = 0)) (by decide) ?_ t.val hN |>.trans rfl
  exact (by decide +kernel : ∀ t : Fin grid0.N, decide ((t.val + 1) % 6 = 0)
    = (win0_9.flush t || (idle0 9 (grid0.coords t) && decide (t.val % 6 = 0))))

theorem before9 (c : Dev nD) (t : Fin cfg0.N) (h : t.val % 6 ≠ 0) (d) : (dats m 0 c).before 9 t d = gR m c t := by
  have hN : t.val < 96 := lt_of_lt_of_eq t.isLt N_0
  rw [(dats m 0 c).before_out_traj 9 rfl (fun _ _ => rfl) (fun s h0 h1 h2 => by
    rw [after9, after9]
    exact gR_congr m c _ _ (by have e := of_decide_eq_true ((idle9 s).symm.trans h1); dsimp only; omega)) t.val t rfl d, fresh9,
    if_neg (by simpa using h), after9]
  exact gR_congr m c _ _ (by dsimp only; omega)

def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d))
    ∗ (∃ d, owns (c : Thread nD τ) (s5 t) fullShare ((dats m 0 c).before 5 t d))
    ∗ (∃ d, owns (c : Thread nD τ) (s6 t) fullShare ((dats m 0 c).before 6 t d))
    ∗ (∃ d, owns (c : Thread nD τ) (s7 t) fullShare ((dats m 0 c).before 7 t d))
    ∗ (∃ d, owns (c : Thread nD τ) (s8 t) fullShare ((dats m 0 c).before 8 t d))
    ∗ (∃ d, owns (c : Thread nD τ) (s9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (s0 t) fullShare (iblk m c 0 t) := by
  rw [show (dats m 0 c).leavesExact 0 t = owns (c : Thread nD τ) (s0 t) fullShare ((dats m 0 c).after 0 t) from rfl, after0]
theorem leaves1 (c : Dev nD) (t : Fin cfg0.N) : (dats m 0 c).leavesExact 1 t = owns (c : Thread nD τ) (s1 t) fullShare (iblk m c 1 t) := by
  rw [show (dats m 0 c).leavesExact 1 t = owns (c : Thread nD τ) (s1 t) fullShare ((dats m 0 c).after 1 t) from rfl, after1]
theorem leaves2 (c : Dev nD) (t : Fin cfg0.N) : (dats m 0 c).leavesExact 2 t = owns (c : Thread nD τ) (s2 t) fullShare (iblk m c 2 t) := by
  rw [show (dats m 0 c).leavesExact 2 t = owns (c : Thread nD τ) (s2 t) fullShare ((dats m 0 c).after 2 t) from rfl, after2]
theorem leaves3 (c : Dev nD) (t : Fin cfg0.N) : (dats m 0 c).leavesExact 3 t = owns (c : Thread nD τ) (s3 t) fullShare (iblk m c 3 t) := by
  rw [show (dats m 0 c).leavesExact 3 t = owns (c : Thread nD τ) (s3 t) fullShare ((dats m 0 c).after 3 t) from rfl, after3]
theorem leaves4 (c : Dev nD) (t : Fin cfg0.N) : (dats m 0 c).leavesExact 4 t = owns (c : Thread nD τ) (s4 t) fullShare (iblk m c 4 t) := by
  rw [show (dats m 0 c).leavesExact 4 t = owns (c : Thread nD τ) (s4 t) fullShare ((dats m 0 c).after 4 t) from rfl, after4]
theorem leaves5 (c : Dev nD) (t : Fin cfg0.N) : (dats m 0 c).leavesExact 5 t = owns (c : Thread nD τ) (s5 t) fullShare (iblk m c 5 t) := by
  rw [show (dats m 0 c).leavesExact 5 t = owns (c : Thread nD τ) (s5 t) fullShare ((dats m 0 c).after 5 t) from rfl, after5]
theorem leaves6 (c : Dev nD) (t : Fin cfg0.N) : (dats m 0 c).leavesExact 6 t = owns (c : Thread nD τ) (s6 t) fullShare (k0_pay5 (hB m c t) (iblk m c 2 t)) := by
  rw [show (dats m 0 c).leavesExact 6 t = owns (c : Thread nD τ) (s6 t) fullShare ((dats m 0 c).after 6 t) from rfl, after6]
theorem leaves7 (c : Dev nD) (t : Fin cfg0.N) : (dats m 0 c).leavesExact 7 t = owns (c : Thread nD τ) (s7 t) fullShare (k0_pay6 (hB m c t) (iblk m c 3 t) (iblk m c 4 t)) := by
  rw [show (dats m 0 c).leavesExact 7 t = owns (c : Thread nD τ) (s7 t) fullShare ((dats m 0 c).after 7 t) from rfl, after7]

theorem leaves8 (c : Dev nD) (t : Fin cfg0.N) :
    owns (c : Thread nD τ) (s8 t) fullShare (gB m c t) ⊢ ((dats m 0 c).leavesExact 8 t : sProp 𝕄) := by
  by_cases h : t.val % 6 = 0
  · rw [show (dats m 0 c).leavesExact 8 t = owns (c : Thread nD τ) (s8 t) fullShare ((dats m 0 c).after 8 t) from by
      unfold Dat.leavesExact; rw [show cfg0.idle 8 (cfg0.grid.coords t) = false from (idle8 t).trans (by simpa using h)], after8]
  · by_cases hf : (cfg0.win 8).flush t = true
    · rw [show (dats m 0 c).leavesExact 8 t = owns (c : Thread nD τ) (s8 t) fullShare ((dats m 0 c).after 8 t) from by
        unfold Dat.leavesExact; rw [show cfg0.idle 8 (cfg0.grid.coords t) = true from (idle8 t).trans (by simpa using h), hf], after8]
    · rw [(dats m 0 c).leavesExact_idle 8 t ((idle8 t).trans (by simpa using h)) (by simpa using hf)]
      iintro H
      iexists (fun _ => default)
      rw [before8 m c t h]
      iexact H

theorem leaves9 (c : Dev nD) (t : Fin cfg0.N) :
    owns (c : Thread nD τ) (s9 t) fullShare (gR m c t) ⊢ ((dats m 0 c).leavesExact 9 t : sProp 𝕄) := by
  by_cases h : t.val % 6 = 0
  · rw [show (dats m 0 c).leavesExact 9 t = owns (c : Thread nD τ) (s9 t) fullShare ((dats m 0 c).after 9 t) from by
      unfold Dat.leavesExact; rw [show cfg0.idle 9 (cfg0.grid.coords t) = false from (idle9 t).trans (by simpa using h)], after9]
  · by_cases hf : (cfg0.win 9).flush t = true
    · rw [show (dats m 0 c).leavesExact 9 t = owns (c : Thread nD τ) (s9 t) fullShare ((dats m 0 c).after 9 t) from by
        unfold Dat.leavesExact; rw [show cfg0.idle 9 (cfg0.grid.coords t) = true from (idle9 t).trans (by simpa using h), hf], after9]
    · rw [(dats m 0 c).leavesExact_idle 9 t ((idle9 t).trans (by simpa using h)) (by simpa using hf)]
      iintro H
      iexists (fun _ => default)
      rw [before9 m c t h]
      iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl, leaves0, leaves1, leaves2, leaves3, leaves4,
    leaves5, leaves6, leaves7, show (dats m 0 c).Φ t.succ = PhiS m c (t.val + 1) t.isLt from rfl, PhiS_succ, PhiS_castSucc m c t]
  by_cases h : t.val % 6 = 0
  · refine (sep_mono (PhiS_any m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ ((first_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    rw [show k0_pay2 (iblk m c 0 t) (iblk m c 1 t) = hB m c t from by unfold hB; rw [top_first t h],
      show k0_pay3 (iblk m c 0 t) (iblk m c 1 t) (iblk m c 5 t) = gB m c t from by unfold gB; rw [top_first t h],
      show k0_pay4 (iblk m c 0 t) (iblk m c 1 t) (iblk m c 5 t) = gR m c t from by unfold gR; rw [top_first t h]]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves8 m c t); iexact H8
    iapply (leaves9 m c t)
    iexact H9
  · have hN : t.val < 96 := lt_of_lt_of_eq t.isLt N_0
    simp only [before8 m c t h, before9 m c t h]
    rw [PhiS_pos m c _ _ (by omega), hB_congr m c ⟨t.val - 1, _⟩ t (by dsimp only; omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_rest c (grid0.coords t) _ _ _ _ _ _ _ _ _ _ _ _ _ _ _ _ _ _ _ _ _ _ (fun e => h ((first_iff t).mp e)) (iblk m c 2 t) (iblk m c 3 t) (iblk m c 4 t) (hB m c t)
      (iprop(owns (c : Thread nD τ) (s8 t) fullShare (gB m c t) ∗ owns (c : Thread nD τ) (s9 t) fullShare (gR m c t))) Set.univ _)
    isplitl [H2]; · iexact H2
    isplitl [H3]; · iexact H3
    isplitl [H4]; · iexact H4
    isplitl [H6]; · iexists _; iexact H6
    isplitl [H7]; · iexists _; iexact H7
    isplitl [HS]; · iexact HS
    isplitl [H8 H9]
    · isplitl [H8]; · iexact H8
      iexact H9
    iintro ⟨H2, H3, H4, H6, H7, HS, ⟨H8, H9⟩⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves8 m c t); iexact H8
    iapply (leaves9 m c t)
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  exact PhiS_any m c _ _

set_option backward.isDefEq.respectTransparency.types false in
/-- Every run ends with each window's array at the proof data's contents, every other array as the region found it, and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- The arguments unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_main m ρ))

end Cert.InprojIdeal.Proj
end
-- ==== Proof.Inproj.Spec.lean ====
module

public import proofs.«01_k».proof.Proof.Gen.InprojReferenceIdeal.Run
public import Idealize.ShloMosaic.Lib.Pointwise
public import Idealize.ShloMosaic.Lib.Pipeline.ValueKit

/-! The input projection, entry by entry, over the extended reals: what the reference's composed terms read at an entry. -/

@[expose] public section
set_option maxRecDepth 16384

noncomputable section
open Idealize.ShloMosaic Idealize.ShloMosaic.TcCoe Idealize.SL.Sem
namespace Cert.InSpec
open Cert.InprojReferenceIdeal (S4x4096x2048 S2x2048 S2048x6144 S2048x128)

/-- Row `r` of the flattened input. -/
def X (A0 : FVec Ideal S4x4096x2048 .f32) (r : Fin 16384) (k : Fin 2048) : EReal :=
  A0 (ix3 ⟨r.val / 4096, by omega⟩ ⟨r.val % 4096, by omega⟩ k)

/-- A row normalised by its root mean square, times its gain. -/
def N (x g : Fin 2048 → EReal) (k : Fin 2048) : EReal :=
  x k * Ideal.rsqrt (Ideal.div (∑ l : Fin 2048, x l * x l) (Ideal.ofBits .f32 0x45000000#32) + Ideal.ofBits .f32 0x358637BD#32) * g k

/-- The layer's gains. -/
def gain (A1 : FVec Ideal S2x2048 .f32) (k : Fin 2048) : EReal := A1 (ix2 1 k)

/-- The projection's entry at column `k` of the whole weight. -/
def P (A0 : FVec Ideal S4x4096x2048 .f32) (A1 : FVec Ideal S2x2048 .f32) (w : FVec Ideal S2048x6144 .bf16) (r : Fin 16384) (k : Fin 6144) : EReal :=
  ∑ l : Fin 2048, N (X A0 r) (gain A1) l * w (ix2 l k)

/-- What the second half's six column groups are scaled by. -/
def fac (g : Fin 6) : EReal := ![1, Ideal.ofBits .f32 0x3DB504F3#32, 1, Ideal.ofBits .f32 0x3E0293EE#32, 1, 1] g

/-- The first half of the columns. -/
def outF (A0 : FVec Ideal S4x4096x2048 .f32) (A1 : FVec Ideal S2x2048 .f32) (w : FVec Ideal S2048x6144 .bf16) (r : Fin 16384) (k : Fin 3072) : EReal :=
  P A0 A1 w r ⟨k.val, by omega⟩

/-- The second half, scaled, at column `k` of group `g`. -/
def outG (A0 : FVec Ideal S4x4096x2048 .f32) (A1 : FVec Ideal S2x2048 .f32) (w : FVec Ideal S2048x6144 .bf16) (r : Fin 16384) (g : Fin 6) (k : Fin 512) : EReal :=
  P A0 A1 w r ⟨3072 + (512 * g.val + k.val), by omega⟩ * fac g

/-- The same at a column of the half. -/
def outB (A0 : FVec Ideal S4x4096x2048 .f32) (A1 : FVec Ideal S2x2048 .f32) (w : FVec Ideal S2048x6144 .bf16) (r : Fin 16384) (k : Fin 3072) : EReal :=
  outG A0 A1 w r ⟨k.val / 512, by omega⟩ ⟨k.val % 512, by omega⟩

theorem outB_at (A0 : FVec Ideal S4x4096x2048 .f32) (A1 : FVec Ideal S2x2048 .f32) (w : FVec Ideal S2048x6144 .bf16) (r : Fin 16384) (g : Fin 6) (k : Fin 512) :
    outB A0 A1 w r ⟨512 * g.val + k.val, by omega⟩ = outG A0 A1 w r g k := by
  have h1 : (512 * g.val + k.val) / 512 = g.val := by omega
  have h2 : (512 * g.val + k.val) % 512 = k.val := by omega
  unfold outB
  simp only [h1, h2]

/-- The gates. -/
def gate (A0 : FVec Ideal S4x4096x2048 .f32) (A1 : FVec Ideal S2x2048 .f32) (w : FVec Ideal S2048x128 .bf16) (r : Fin 16384) (k : Fin 128) : EReal :=
  ∑ l : Fin 2048, N (X A0 r) (gain A1) l * w (ix2 l k)

/-- The first sixteen gates, as rows. -/
def gateT (A0 : FVec Ideal S4x4096x2048 .f32) (A1 : FVec Ideal S2x2048 .f32) (w : FVec Ideal S2048x128 .bf16) (k : Fin 16) (r : Fin 16384) : EReal :=
  gate A0 A1 w r ⟨k.val, by omega⟩

end Cert.InSpec

namespace Cert.InprojReferenceIdeal.At
open Cert.InprojReferenceIdeal Cert.InprojReferenceIdeal.Gen Cert.InSpec

/-- The flattened input. -/
def xT (A0 : FVec Ideal S4x4096x2048 .f32) : FVec Ideal S16384x2048 .f32 := shapeCast _ A0 shapeCasts_S4x4096x2048_S16384x2048

/-- The normalised rows times the gain, as the reference composes them. -/
def hT (A0 : FVec Ideal S4x4096x2048 .f32) (A1 : FVec Ideal S2x2048 .f32) : FVec Ideal S16384x2048 .f32 :=
  mulf (mulf (xT A0) (broadcastInDim S16384x2048 ![0, 1] bcast_S16384x1_S16384x2048_0_1 (Host.rsqrt (addf (Host.divf
    (broadcastInDim S16384x1 ![0] bcast_S16384_S16384x1_0 (Host.reduceAdd (mulf (xT A0) (xT A0)) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1
      (shapeCast _ (extractStridedSlice S1x2048 ![1, 0] A1 slices_S2x2048_S1x2048_1_0) shapeCasts_S1x2048_S2048)))

/-- The whole projection. -/
def pT (h : FVec Ideal S16384x2048 .f32) (w : FVec Ideal S2048x6144 .bf16) : FVec Ideal S16384x6144 .f32 :=
  Host.dotGeneral dot_S16384x2048_S2048x6144_S16384x6144_1_0_0_1_n_n none h (extf .f32 w bitsLt_bf16_f32)

/-- The gates. -/
def gT (h : FVec Ideal S16384x2048 .f32) (w : FVec Ideal S2048x128 .bf16) : FVec Ideal S16384x128 .f32 :=
  Host.dotGeneral dot_S16384x2048_S2048x128_S16384x128_1_0_0_1_n_n none h (extf .f32 w bitsLt_bf16_f32)

/-- A column group of the second half. -/
def cT (p : FVec Ideal S16384x6144 .f32) (o : ℕ) (h : S16384x3072.Slices ![0, o] S16384x512) : FVec Ideal S16384x512 .f32 :=
  extractStridedSlice S16384x512 ![0, o] (extractStridedSlice S16384x3072 ![0, 3072] p slices_S16384x6144_S16384x3072_0_3072) h

/-- The same, scaled. -/
def sT (p : FVec Ideal S16384x512 .f32) (b : BitVec 32) : FVec Ideal S16384x512 .f32 :=
  mulf p (broadcastInDim S16384x512 ![] bcast_S_S16384x512 (constant S_ .f32 b))

theorem xT_at (A0 : FVec Ideal S4x4096x2048 .f32) (r : Fin 16384) (k : Fin 2048) : xT A0 (ix2 r k) = X A0 r k := by
  unfold X
  pointwise [xT]

theorem hT_at (A0 : FVec Ideal S4x4096x2048 .f32) (A1 : FVec Ideal S2x2048 .f32) (r : Fin 16384) (k : Fin 2048) :
    hT A0 A1 (ix2 r k) = N (X A0 r) (gain A1) k := by
  unfold hT N gain
  simp only [← xT_at]
  generalize xT A0 = x
  pointwise

theorem pT_at (h : FVec Ideal S16384x2048 .f32) (w : FVec Ideal S2048x6144 .bf16) (r : Fin 16384) (k : Fin 6144) :
    pT h w (ix2 r k) = ∑ l : Fin 2048, h (ix2 r l) * w (ix2 l k) := by
  pointwise [pT]

theorem gT_at (h : FVec Ideal S16384x2048 .f32) (w : FVec Ideal S2048x128 .bf16) (r : Fin 16384) (k : Fin 128) :
    gT h w (ix2 r k) = ∑ l : Fin 2048, h (ix2 r l) * w (ix2 l k) := by
  pointwise [gT]

theorem cT_at (p : FVec Ideal S16384x6144 .f32) (o : ℕ) (h : S16384x3072.Slices ![0, o] S16384x512) (r : Fin 16384) (k : Fin 512) (ho : o + 512 ≤ 3072) :
    cT p o h (ix2 r k) = p (ix2 r ⟨3072 + (o + k.val), by omega⟩) := by
  pointwise [cT]

theorem sT_at (p : FVec Ideal S16384x512 .f32) (b : BitVec 32) (r : Fin 16384) (k : Fin 512) :
    sT p b (ix2 r k) = p (ix2 r k) * Ideal.ofBits .f32 b := by
  pointwise [sT]

theorem fT_at (p : FVec Ideal S16384x6144 .f32) (r : Fin 16384) (k : Fin 3072) :
    extractStridedSlice S16384x3072 ![0, 0] p slices_S16384x6144_S16384x3072_0_0 (ix2 r k) = p (ix2 r ⟨k.val, by omega⟩) := by
  pointwise

theorem tT_at (g : FVec Ideal S16384x128 .f32) (k : Fin 16) (r : Fin 16384) :
    transpose S16x16384 [1, 0] (extractStridedSlice S16384x16 ![0, 0] g slices_S16384x128_S16384x16_0_0) transposes_S16384x16_S16x16384_1_0 (ix2 k r)
      = g (ix2 r ⟨k.val, by omega⟩) := by
  pointwise

/-- Six groups side by side, read at a column of group `g`. -/
theorem cat_at (p0 p1 p2 p3 p4 p5 : FVec Ideal S16384x512 .f32) (r : Fin 16384) (g : Fin 6) (k : Fin 512) :
    concatenate S16384x3072 1 [⟨S16384x512, p0⟩, ⟨S16384x512, p1⟩, ⟨S16384x512, p2⟩, ⟨S16384x512, p3⟩, ⟨S16384x512, p4⟩, ⟨S16384x512, p5⟩]
      concatenates_S16384x512_S16384x512_S16384x512_S16384x512_S16384x512_S16384x512_S16384x3072_d1 (ix2 r (⟨512 * g.val + k.val, by omega⟩ : Fin 3072))
      = (![p0, p1, p2, p3, p4, p5] g) (ix2 r k) := by
  refine concatenate_ofFn_apply (t := S16384x3072) (s₁ := S16384x512) 1 ![p0, p1, p2, p3, p4, p5] _ rfl 512 rfl
    (ix2 r (⟨512 * g.val + k.val, by omega⟩ : Fin 3072)) g ?_ (ix2 r k) ?_ ?_
  · show (512 * g.val + k.val) / 512 = g.val
    omega
  · show k.val = (512 * g.val + k.val) % 512
    omega
  · intro b hb
    match b, hb with
    | ⟨0, _⟩, _ => rfl
    | ⟨1, _⟩, hb => exact absurd rfl hb

/-- The scaled second half, as the reference composes it. -/
def bT (p : FVec Ideal S16384x6144 .f32) : FVec Ideal S16384x3072 .bf16 :=
  truncf .bf16 (concatenate S16384x3072 1 [⟨S16384x512, cT p 0 slices_S16384x3072_S16384x512_0_0⟩,
    ⟨S16384x512, sT (cT p 512 slices_S16384x3072_S16384x512_0_512) 0x3DB504F3#32⟩, ⟨S16384x512, cT p 1024 slices_S16384x3072_S16384x512_0_1024⟩,
    ⟨S16384x512, sT (cT p 1536 slices_S16384x3072_S16384x512_0_1536) 0x3E0293EE#32⟩, ⟨S16384x512, cT p 2048 slices_S16384x3072_S16384x512_0_2048⟩,
    ⟨S16384x512, cT p 2560 slices_S16384x3072_S16384x512_0_2560⟩]
    concatenates_S16384x512_S16384x512_S16384x512_S16384x512_S16384x512_S16384x512_S16384x3072_d1) bitsLt_bf16_f32

theorem bT_at (p : FVec Ideal S16384x6144 .f32) (r : Fin 16384) (g : Fin 6) (k : Fin 512) :
    bT p (ix2 r (⟨512 * g.val + k.val, by omega⟩ : Fin 3072)) = p (ix2 r ⟨3072 + (512 * g.val + k.val), by omega⟩) * fac g := by
  refine (cat_at (cT p 0 slices_S16384x3072_S16384x512_0_0) (sT (cT p 512 slices_S16384x3072_S16384x512_0_512) 0x3DB504F3#32)
    (cT p 1024 slices_S16384x3072_S16384x512_0_1024) (sT (cT p 1536 slices_S16384x3072_S16384x512_0_1536) 0x3E0293EE#32)
    (cT p 2048 slices_S16384x3072_S16384x512_0_2048) (cT p 2560 slices_S16384x3072_S16384x512_0_2560) r g k).trans ?_
  match g with
  | 0 => exact (cT_at p 0 slices_S16384x3072_S16384x512_0_0 r k (by omega)).trans (mul_one _).symm
  | 1 => exact (sT_at _ _ r k).trans (congrArg (· * _) (cT_at p 512 slices_S16384x3072_S16384x512_0_512 r k (by omega)))
  | 2 => exact (cT_at p 1024 slices_S16384x3072_S16384x512_0_1024 r k (by omega)).trans (mul_one _).symm
  | 3 => exact (sT_at _ _ r k).trans (congrArg (· * _) (cT_at p 1536 slices_S16384x3072_S16384x512_0_1536 r k (by omega)))
  | 4 => exact (cT_at p 2048 slices_S16384x3072_S16384x512_0_2048 r k (by omega)).trans (mul_one _).symm
  | 5 => exact (cT_at p 2560 slices_S16384x3072_S16384x512_0_2560 r k (by omega)).trans (mul_one _).symm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = (fun i : S16384x3072.Idx => outF (m ((c.tc : Thread nD τ).loc main_arg0))
        (m ((c.tc : Thread nD τ).loc main_arg1)) (m ((c.tc : Thread nD τ).loc main_arg2)) (i 0) (i 1))
      ∧ r.2.mem ((c.tc : Thread nD τ).loc main_v33) = (fun i : S16384x3072.Idx => outB (m ((c.tc : Thread nD τ).loc main_arg0))
        (m ((c.tc : Thread nD τ).loc main_arg1)) (m ((c.tc : Thread nD τ).loc main_arg2)) (i 0) (i 1))
      ∧ r.2.mem ((c.tc : Thread nD τ).loc main_v31) = (fun i : S16384x128.Idx => gate (m ((c.tc : Thread nD τ).loc main_arg0))
        (m ((c.tc : Thread nD τ).loc main_arg1)) (m ((c.tc : Thread nD τ).loc main_arg3)) (i 0) (i 1))
      ∧ r.2.mem ((c.tc : Thread nD τ).loc main_v35) = (fun i : S16x16384.Idx => gateT (m ((c.tc : Thread nD τ).loc main_arg0))
        (m ((c.tc : Thread nD τ).loc main_arg1)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩)
    (Cert.InprojReferenceIdeal.Value.run m ρ)
  · generalize m ((c.tc : Thread nD τ).loc main_arg0) = A0
    generalize m ((c.tc : Thread nD τ).loc main_arg1) = A1
    generalize m ((c.tc : Thread nD τ).loc main_arg2) = A2
    funext i
    idx_vars i
    refine (fT_at (pT (hT A0 A1) A2) i0 i1).trans ?_
    rw [pT_at]
    simp only [hT_at]
    rfl
  · unfold Cert.InprojReferenceIdeal.Value.res_main_v33
    generalize m ((c.tc : Thread nD τ).loc main_arg0) = A0
    generalize m ((c.tc : Thread nD τ).loc main_arg1) = A1
    generalize m ((c.tc : Thread nD τ).loc main_arg2) = A2
    funext i
    idx_vars i
    have e : i1 = ⟨512 * (⟨i1.val / 512, by omega⟩ : Fin 6).val + (⟨i1.val % 512, by omega⟩ : Fin 512).val, by dsimp only; omega⟩ :=
      Fin.ext (Nat.div_add_mod i1.val 512).symm
    have k := bT_at (pT (hT A0 A1) A2) i0 ⟨i1.val / 512, by omega⟩ ⟨i1.val % 512, by omega⟩
    rw [← e] at k
    refine Eq.trans k ?_
    rw [pT_at]
    simp only [hT_at]
    rfl
  · generalize m ((c.tc : Thread nD τ).loc main_arg0) = A0
    generalize m ((c.tc : Thread nD τ).loc main_arg1) = A1
    generalize m ((c.tc : Thread nD τ).loc main_arg3) = A3
    funext i
    idx_vars i
    refine (gT_at (hT A0 A1) A3 i0 i1).trans ?_
    simp only [hT_at]
    rfl
  · generalize m ((c.tc : Thread nD τ).loc main_arg0) = A0
    generalize m ((c.tc : Thread nD τ).loc main_arg1) = A1
    generalize m ((c.tc : Thread nD τ).loc main_arg3) = A3
    funext i
    idx_vars i
    refine (tT_at (gT (hT A0 A1) A3) i0 i1).trans ?_
    rw [gT_at]
    simp only [hT_at]
    rfl

end Cert.InprojReferenceIdeal.At
-- ==== Proof.Inproj.Value.lean ====
module

public import proofs.«01_k».proof.Proof.Inproj.Run
public import proofs.«01_k».proof.Proof.Inproj.Spec
public import Idealize.ShloMosaic.Lib.Routing.OpsOne

/-! The input projection's kernel: what one point's blocks compute, and what the result arrays hold after the run. -/

@[expose] public section
set_option maxRecDepth 16384

noncomputable section
open Idealize.ShloMosaic Idealize.ShloMosaic.TcCoe Idealize.SL.Sem
open Idealize.ShloMosaic.Pipeline (Dat)

namespace Cert.InSpec

/-- Where an update of one row lands: at its own column of the row the index names. -/
theorem lands_row {A B : Nat} (d : ScatterDims (⟨2, ![A, B]⟩ : Shape) (⟨1, ![1]⟩ : Shape) (⟨1, ![B]⟩ : Shape)) (hiw : d.insertedWindowDims = [0]) (hsd : d.scatterDimsToOperandDims = [0])
    (idx : IVec (⟨1, ![1]⟩ : Shape) 32) (k : Fin A) (hidx : (idx (ix1 0)).toInt = (k.val : Int))
    (w' : Fin B) (w : Fin A) (e : Fin B) : d.resultIdx? (ix1 w') idx = some (ix2 w e) ↔ w = k ∧ w' = e := by
  have hm : (0 : Fin 2) ∈ d.scatterDimsToOperandDims := by rw [hsd]; exact List.mem_singleton.2 rfl
  have hkept : d.sKept = [1] := by
    show (⟨2, ![A, B]⟩ : Shape).kept d.insertedWindowDims = _
    rw [hiw]
    rfl
  have hwin0 : d.window (ix1 w') 0 = 0 := by
    unfold ScatterDims.window
    rw [dif_neg fun h => (of_decide_eq_true (List.mem_filter.1 h).2) (by rw [hiw]; exact List.mem_singleton.2 rfl)]
  have hwin1 : d.window (ix1 w') 1 = w'.val := by
    unfold ScatterDims.window
    rw [dif_pos (by rw [hkept]; exact List.mem_singleton.2 rfl)]
    have q : ∀ X : Fin 1, (ix1 w' X).val = w'.val := fun X => by
      obtain rfl : X = 0 := Subsingleton.elim _ _
      rfl
    exact q _
  have hstart1 : d.start (ix1 w') idx 1 = 0 := by
    unfold ScatterDims.start
    rw [dif_neg fun h => by rw [hsd] at h; exact absurd (List.mem_singleton.1 h) (by decide : (1 : Fin 2) ≠ 0)]
  have hstart0 : d.start (ix1 w') idx 0 = (k.val : Int) := by
    unfold ScatterDims.start
    rw [dif_pos hm]
    have hsi : d.siIdx (ix1 w') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, Fin.ext_iff, ix2_eq_valueIdx, Routing.resultIdx?_ix2, hstart0, hwin0, hstart1, hwin1]
  omega

/-- One row of a table set, read at an entry. -/
theorem scatter_row {α : Type} {A B : Nat} (d : ScatterDims (⟨2, ![A, B]⟩ : Shape) (⟨1, ![1]⟩ : Shape) (⟨1, ![B]⟩ : Shape)) (hiw : d.insertedWindowDims = [0])
    (hsd : d.scatterDimsToOperandDims = [0]) (x0 : (⟨2, ![A, B]⟩ : Shape).Idx → α) (idx : IVec (⟨1, ![1]⟩ : Shape) 32) (upd : (⟨1, ![B]⟩ : Shape).Idx → α)
    (k : Fin A) (hidx : (idx (ix1 0)).toInt = (k.val : Int)) (w : Fin A) (e : Fin B) :
    Host.scatter d (fun _ b => b) x0 idx upd (ix2 w e) = if w = k then upd (ix1 e) else x0 (ix2 w e) := by
  have lands : ∀ j : (⟨1, ![B]⟩ : Shape).Idx, d.resultIdx? j idx = some (ix2 w e) → w = k ∧ j 0 = e := fun j hj =>
    (lands_row d hiw hsd idx k hidx (j 0) w e).1 ((congrArg (fun t => d.resultIdx? t idx) (eq_ix1 j).symm).trans hj)
  by_cases h : w = k
  · rw [if_pos h]
    exact Routing.scatter_set_hit d x0 idx upd _ _ (fun j hj => (congrArg upd (eq_ix1 j)).trans (congrArg (fun t => upd (ix1 t)) (lands j hj).2)) (ix1 e)
      ((lands_row d hiw hsd idx k hidx e w e).2 ⟨h, rfl⟩)
  · rw [if_neg h]
    exact Routing.scatter_set_miss d x0 idx upd _ fun j hj => h (lands j hj).1

end Cert.InSpec

namespace Cert.InprojIdeal.Proj
open Cert.InprojIdeal Cert.InprojIdeal.Gen Cert.InSpec
variable (m : (ℓ : Loc nD τ sig) → Buf (Elt Ideal) ℓ)

theorem pay2_at (x : FVec Ideal S1024x2048 .f32) (g : FVec Ideal S1x2048 .f32) (r : Fin 1024) (k : Fin 2048) :
    k0_pay2 (F := Ideal) x g (ix2 r k) = N (fun l => x (ix2 r l)) (fun l => g (ix2 0 l)) k := by
  unfold N
  pointwise [k0_pay2, k0_pay1]

theorem pay1_at (x : FVec Ideal S1024x2048 .f32) (g : FVec Ideal S1x2048 .f32) (r : Fin 1024) (k : Fin 2048) :
    k0_pay1 (F := Ideal) x g (ix2 r k) = N (fun l => x (ix2 r l)) (fun l => g (ix2 0 l)) k := by
  unfold N
  pointwise [k0_pay1]

theorem dot_at (h : FVec Ideal S1024x2048 .bf16) (w : FVec Ideal S2048x128 .bf16) (r : Fin 1024) (k : Fin 128) :
    (matmul (F := Ideal) dot_S1024x2048_S2048x128_S1024x128_1_0_0_1_n_n none h w (constant S1024x128 .f32 0x00000000#32) : FVec Ideal S1024x128 .f32) (ix2 r k)
      = ∑ l : Fin 2048, h (ix2 r l) * w (ix2 l k) := by
  pointwise

theorem pay3_at (x : FVec Ideal S1024x2048 .f32) (g : FVec Ideal S1x2048 .f32) (w : FVec Ideal S2048x128 .bf16) (r : Fin 1024) (k : Fin 128) :
    k0_pay3 (F := Ideal) x g w (ix2 r k) = ∑ l : Fin 2048, N (fun l => x (ix2 r l)) (fun l => g (ix2 0 l)) l * w (ix2 l k) := by
  refine (dot_at (k0_pay1 x g) w r k).trans ?_
  simp only [pay1_at]

theorem pay4_at (x : FVec Ideal S1024x2048 .f32) (g : FVec Ideal S1x2048 .f32) (w : FVec Ideal S2048x128 .bf16) (k : Fin 16) (r : Fin 1024) :
    k0_pay4 (F := Ideal) x g w (ix2 k r) = k0_pay3 (F := Ideal) x g w (ix2 r ⟨k.val, by omega⟩) := by
  unfold k0_pay4
  generalize k0_pay3 (F := Ideal) x g w = p
  pointwise

theorem pay5_at (h : FVec Ideal S1024x2048 .bf16) (w : FVec Ideal S2048x512 .bf16) (r : Fin 1024) (k : Fin 512) :
    k0_pay5 (F := Ideal) h w (ix2 r k) = ∑ l : Fin 2048, h (ix2 r l) * w (ix2 l k) := by
  pointwise [k0_pay5]

theorem pay6_at (h : FVec Ideal S1024x2048 .bf16) (w : FVec Ideal S2048x512 .bf16) (s : FVec Ideal S1x512 .f32) (r : Fin 1024) (k : Fin 512) :
    k0_pay6 (F := Ideal) h w s (ix2 r k) = (∑ l : Fin 2048, h (ix2 r l) * w (ix2 l k)) * s (ix2 0 k) := by
  pointwise [k0_pay6]

theorem idx0 : ∀ t : Fin cfg0.N, win0_0.index t = ![t.val / 6, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 6] := (by decide +kernel : ∀ t : Fin grid0.N, _)
theorem idx3 : ∀ t : Fin cfg0.N, win0_3.index t = ![0, t.val % 6 + 6] := (by decide +kernel : ∀ t : Fin grid0.N, _)
theorem idx4 : ∀ t : Fin cfg0.N, win0_4.index t = ![0, t.val % 6] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 6, t.val % 6] := (by decide +kernel : ∀ t : Fin grid0.N, _)
theorem idx7 : ∀ t : Fin cfg0.N, win0_7.index t = ![t.val / 6, t.val % 6] := (by decide +kernel : ∀ t : Fin grid0.N, _)
theorem idx8 : ∀ t : Fin cfg0.N, win0_8.index t = ![t.val / 6, 0] := (by decide +kernel : ∀ t : Fin grid0.N, _)
theorem idx9 : ∀ t : Fin cfg0.N, win0_9.index t = ![0, t.val / 6] := (by decide +kernel : ∀ t : Fin grid0.N, _)

theorem row_lt (t : Fin cfg0.N) (y : Fin 1024) : t.val / 6 * 1024 + y.val < 16384 := by
  have h : t.val < 96 := lt_of_lt_of_eq t.isLt N_0
  omega

theorem b0 (c : Dev nD) (t : Fin cfg0.N) (y : Fin 1024) (k : Fin 2048) :
    iblk m c 0 t (ix2 y k) = X (m ((c.tc : Thread nD τ).loc main_arg0)) ⟨t.val / 6 * 1024 + y.val, row_lt t y⟩ k := by
  unfold X
  blk_point [iblk, V, idx0 t]
theorem b1 (c : Dev nD) (t : Fin cfg0.N) (k : Fin 2048) :
    iblk m c 1 t (ix2 0 k) = gain (m ((c.tc : Thread nD τ).loc main_arg1)) k := by
  unfold gain
  blk_point [iblk, V, idx1 t]
theorem b2 (c : Dev nD) (t : Fin cfg0.N) (l : Fin 2048) (k : Fin 512) :
    iblk m c 2 t (ix2 l k) = m ((c.tc : Thread nD τ).loc main_arg2) (ix2 l ⟨t.val % 6 * 512 + k.val, by omega⟩) := by
  blk_point [iblk, V, idx2 t]
theorem b3 (c : Dev nD) (t : Fin cfg0.N) (l : Fin 2048) (k : Fin 512) :
    iblk m c 3 t (ix2 l k) = m ((c.tc : Thread nD τ).loc main_arg2) (ix2 l ⟨(t.val % 6 + 6) * 512 + k.val, by omega⟩) := by
  blk_point [iblk, V, idx3 t]
theorem b5 (c : Dev nD) (t : Fin cfg0.N) (l : Fin 2048) (k : Fin 128) :
    iblk m c 5 t (ix2 l k) = m ((c.tc : Thread nD τ).loc main_arg3) (ix2 l k) := by
  blk_point [iblk, V, idx5 t]

/-- The table of scales, as @main makes it. -/
def sc0 : FVec Ideal S6x512 .f32 := broadcastInDim S6x512 ![] bcast_S_S6x512 (constant S_ .f32 0x3F800000#32)
def sc1 : FVec Ideal S6x512 .f32 := Host.scatter scatter_S6x512_S1_S512_0_0_0_0 (fun _ b => b) sc0
  (broadcastInDim S1 ![] bcast_S_S1 (constantI S_ 32 1#32)) (broadcastInDim S512 ![] bcast_S_S512 (constant S_ .f32 0x3DB504F3#32))
def sc2 : FVec Ideal S6x512 .f32 := Host.scatter scatter_S6x512_S1_S512_0_0_0_0 (fun _ b => b) sc1
  (broadcastInDim S1 ![] bcast_S_S1 (constantI S_ 32 3#32)) (broadcastInDim S512 ![] bcast_S_S512 (constant S_ .f32 0x3E0293EE#32))

theorem fac_if (g : Fin 6) : (if g = 3 then Ideal.ofBits .f32 0x3E0293EE#32 else if g = 1 then Ideal.ofBits .f32 0x3DB504F3#32 else 1) = fac g := by
  unfold fac
  generalize Ideal.ofBits .f32 0x3E0293EE#32 = a
  generalize Ideal.ofBits .f32 0x3DB504F3#32 = b
  match g with
  | 0 => exact (if_neg (by decide)).trans (if_neg (by decide))
  | 1 => exact (if_neg (by decide)).trans (if_pos rfl)
  | 2 => exact (if_neg (by decide)).trans (if_neg (by decide))
  | 3 => exact if_pos rfl
  | 4 => exact (if_neg (by decide)).trans (if_neg (by decide))
  | 5 => exact (if_neg (by decide)).trans (if_neg (by decide))

theorem sc2_at (g : Fin 6) (k : Fin 512) : sc2 (ix2 g k) = fac g := by
  have h1 : sc1 (ix2 g k) = if g = 1 then Ideal.ofBits .f32 0x3DB504F3#32 else 1 := by
    refine (scatter_row scatter_S6x512_S1_S512_0_0_0_0 rfl rfl sc0 _ _ 1 (by decide) g k).trans ?_
    refine congrArg₂ (fun a b => if g = 1 then a else b) rfl ?_
    pointwise [sc0]
  have h2 : sc2 (ix2 g k) = if g = 3 then Ideal.ofBits .f32 0x3E0293EE#32 else sc1 (ix2 g k) :=
    scatter_row scatter_S6x512_S1_S512_0_0_0_0 rfl rfl sc1 _ _ 3 (by decide) g k
  rw [h2, h1]
  exact fac_if g

theorem b4' (c : Dev nD) (t : Fin cfg0.N) (k : Fin 512) :
    iblk m c 4 t (ix2 0 k) = sc2 (ix2 ⟨t.val % 6, by omega⟩ k) := by
  have e : (V m c main_v7 : FVec Ideal S1x3072 .f32) = shapeCast S1x3072 sc2 shapeCasts_S6x512_S1x3072 := by
    entry_read
    rfl
  have h : iblk m c 4 t (ix2 0 k) = (V m c main_v7 : FVec Ideal S1x3072 .f32) (ix2 0 ⟨t.val % 6 * 512 + k.val, by omega⟩) := by
    refine congrArg (V m c main_v7 : FVec Ideal S1x3072 .f32) ?_
    blk_ext [idx4 t]
  rw [h, e]
  generalize sc2 = s
  pointwise
  exact congrArg (fun n => s (ix2 n k)) (Fin.ext (by have := k.isLt; dsimp only; omega))
theorem b4 (c : Dev nD) (t : Fin cfg0.N) (k : Fin 512) :
    iblk m c 4 t (ix2 0 k) = fac ⟨t.val % 6, by omega⟩ := (b4' m c t k).trans (sc2_at _ k)

theorem top_div (t : Fin cfg0.N) : (top t).val / 6 = t.val / 6 := by unfold top; dsimp only; omega

theorem hB_at (c : Dev nD) (t : Fin cfg0.N) (r : Fin 1024) (k : Fin 2048) :
    hB m c t (ix2 r k) = N (X (m ((c.tc : Thread nD τ).loc main_arg0)) ⟨t.val / 6 * 1024 + r.val, row_lt t r⟩) (gain (m ((c.tc : Thread nD τ).loc main_arg1))) k := by
  refine (pay2_at _ _ r k).trans ?_
  rw [funext (b0 m c (top t) r), funext (b1 m c (top t))]
  simp only [top_div]

theorem gB_at (c : Dev nD) (t : Fin cfg0.N) (r : Fin 1024) (k : Fin 128) :
    gB m c t (ix2 r k) = gate (m ((c.tc : Thread nD τ).loc main_arg0)) (m ((c.tc : Thread nD τ).loc main_arg1)) (m ((c.tc : Thread nD τ).loc main_arg3))
      ⟨t.val / 6 * 1024 + r.val, row_lt t r⟩ k := by
  refine (pay3_at _ _ _ r k).trans ?_
  rw [funext (b0 m c (top t) r), funext (b1 m c (top t))]
  unfold gate
  simp only [top_div]
  exact Finset.sum_congr rfl fun l _ => congrArg (_ * ·) (b5 m c (top t) l k)

theorem gR_at (c : Dev nD) (t : Fin cfg0.N) (k : Fin 16) (r : Fin 1024) :
    gR m c t (ix2 k r) = gateT (m ((c.tc : Thread nD τ).loc main_arg0)) (m ((c.tc : Thread nD τ).loc main_arg1)) (m ((c.tc : Thread nD τ).loc main_arg3))
      k ⟨t.val / 6 * 1024 + r.val, row_lt t r⟩ :=
  (pay4_at _ _ _ k r).trans (gB_at m c t r ⟨k.val, by omega⟩)

theorem pf_at (c : Dev nD) (t : Fin cfg0.N) (r : Fin 1024) (k : Fin 512) :
    k0_pay5 (hB m c t) (iblk m c 2 t) (ix2 r k) = outF (m ((c.tc : Thread nD τ).loc main_arg0)) (m ((c.tc : Thread nD τ).loc main_arg1)) (m ((c.tc : Thread nD τ).loc main_arg2))
      ⟨t.val / 6 * 1024 + r.val, row_lt t r⟩ ⟨t.val % 6 * 512 + k.val, by omega⟩ := by
  refine (pay5_at _ _ r k).trans ?_
  unfold outF P
  exact Finset.sum_congr rfl fun l _ => congrArg₂ (· * ·) (hB_at m c t r l) (b2 m c t l k)

theorem pb_at (c : Dev nD) (t : Fin cfg0.N) (r : Fin 1024) (k : Fin 512) :
    k0_pay6 (hB m c t) (iblk m c 3 t) (iblk m c 4 t) (ix2 r k) = outB (m ((c.tc : Thread nD τ).loc main_arg0)) (m ((c.tc : Thread nD τ).loc main_arg1)) (m ((c.tc : Thread nD τ).loc main_arg2))
      ⟨t.val / 6 * 1024 + r.val, row_lt t r⟩ ⟨t.val % 6 * 512 + k.val, by omega⟩ := by
  refine (pay6_at _ _ _ r k).trans ?_
  have e : (⟨t.val % 6 * 512 + k.val, by omega⟩ : Fin 3072) = ⟨512 * (⟨t.val % 6, by omega⟩ : Fin 6).val + k.val, by dsimp only; omega⟩ :=
    Fin.ext (congrArg (· + k.val) (Nat.mul_comm _ _))
  rw [e, outB_at]
  unfold outG P
  refine congrArg₂ (· * ·) (Finset.sum_congr rfl fun l _ => congrArg₂ (· * ·) (hB_at m c t r l) ((b3 m c t l k).trans ?_)) (b4 m c t k)
  exact congrArg (fun n => m ((c.tc : Thread nD τ).loc main_arg2) (ix2 l n)) (Fin.ext (by dsimp only; omega))

abbrev GF (c : Dev nD) : FVec Ideal S16384x3072 .f32 := fun i => outF (m ((c.tc : Thread nD τ).loc main_arg0)) (m ((c.tc : Thread nD τ).loc main_arg1)) (m ((c.tc : Thread nD τ).loc main_arg2)) (i 0) (i 1)
abbrev GB (c : Dev nD) : FVec Ideal S16384x3072 .bf16 := fun i => outB (m ((c.tc : Thread nD τ).loc main_arg0)) (m ((c.tc : Thread nD τ).loc main_arg1)) (m ((c.tc : Thread nD τ).loc main_arg2)) (i 0) (i 1)
abbrev GC (c : Dev nD) : FVec Ideal S16384x128 .f32 := fun i => gate (m ((c.tc : Thread nD τ).loc main_arg0)) (m ((c.tc : Thread nD τ).loc main_arg1)) (m ((c.tc : Thread nD τ).loc main_arg3)) (i 0) (i 1)
abbrev GR (c : Dev nD) : FVec Ideal S16x16384 .f32 := fun i => gateT (m ((c.tc : Thread nD τ).loc main_arg0)) (m ((c.tc : Thread nD τ).loc main_arg1)) (m ((c.tc : Thread nD τ).loc main_arg3)) (i 0) (i 1)

theorem final6 (c : Dev nD) : (dats m 0 c).arrAt 6 (cfgs 0).N = GF m c := by
  refine (dats m 0 c).arrAt_eq_of_covers 6 _ (by decide +kernel) fun t hf y => ?_
  blk_simp
  rw [after6]
  idx_vars y
  refine (pf_at m c t y0 y1).trans ?_
  have e : (((View.whole main_v12_0).slice (win0_6.rect t)).emb (ix2 y0 y1) : S16384x3072.Idx)
      = ix2 ⟨t.val / 6 * 1024 + y0.val, row_lt t y0⟩ ⟨t.val % 6 * 512 + y1.val, by omega⟩ := by
    blk_ext [idx6 t]
  exact (congrArg (GF m c) e).symm

theorem final7 (c : Dev nD) : (dats m 0 c).arrAt 7 (cfgs 0).N = GB m c := by
  refine (dats m 0 c).arrAt_eq_of_covers 7 _ (by decide +kernel) fun t hf y => ?_
  blk_simp
  rw [after7]
  idx_vars y
  refine (pb_at m c t y0 y1).trans ?_
  have e : (((View.whole main_v12_1).slice (win0_7.rect t)).emb (ix2 y0 y1) : S16384x3072.Idx)
      = ix2 ⟨t.val / 6 * 1024 + y0.val, row_lt t y0⟩ ⟨t.val % 6 * 512 + y1.val, by omega⟩ := by
    blk_ext [idx7 t]
  exact (congrArg (GB m c) e).symm

theorem final8 (c : Dev nD) : (dats m 0 c).arrAt 8 (cfgs 0).N = GC m c := by
  refine (dats m 0 c).arrAt_eq_of_covers 8 _ (by decide +kernel) fun t hf y => ?_
  blk_simp
  rw [after8]
  idx_vars y
  refine (gB_at m c t y0 y1).trans ?_
  have e : (((View.whole main_v12_2).slice (win0_8.rect t)).emb (ix2 y0 y1) : S16384x128.Idx)
      = ix2 ⟨t.val / 6 * 1024 + y0.val, row_lt t y0⟩ y1 := by
    blk_ext [idx8 t]
  exact (congrArg (GC m c) e).symm

theorem final9 (c : Dev nD) : (dats m 0 c).arrAt 9 (cfgs 0).N = GR m c := by
  refine (dats m 0 c).arrAt_eq_of_covers 9 _ (by decide +kernel) fun t hf y => ?_
  blk_simp
  rw [after9]
  idx_vars y
  refine (gR_at m c t y0 y1).trans ?_
  have e : (((View.whole main_v12_3).slice (win0_9.rect t)).emb (ix2 y0 y1) : S16x16384.Idx)
      = ix2 y0 ⟨t.val / 6 * 1024 + y1.val, row_lt t y1⟩ := by
    blk_ext [idx9 t]
  exact (congrArg (GR m c) e).symm

/-- The run: the four result arrays at their functions of the arguments, the arguments as launched. -/
theorem run (ρ : Dev nD → PrngReg) : θ_run defs (onTc (τ := τ) (main (F := Ideal))) ⟨m, fun _ => 0, ρ⟩ fun r => ∀ c : Dev nD,
      r.2.mem ((c.tc : Thread nD τ).loc main_v12_0) = GF m c
      ∧ r.2.mem ((c.tc : Thread nD τ).loc main_v12_1) = GB m c
      ∧ r.2.mem ((c.tc : Thread nD τ).loc main_v12_2) = GC m c
      ∧ r.2.mem ((c.tc : Thread nD τ).loc main_v12_3) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 6).trans (final6 m c), ((h.1 c).1 7).trans (final7 m c), ((h.1 c).1 8).trans (final8 m c),
      ((h.1 c).1 9).trans (final9 m c), h.2 c⟩)
    (θ_run_and (run_post m ρ) (frame_of m ρ (dats m) (A_eq m) (run_post m ρ)))

end Cert.InprojIdeal.Proj
-- ==== Proof.Outproj.Spec.lean ====
module

public import proofs.«01_k».proof.Proof.Gen.OutprojReferenceIdeal.Run
public import Idealize.ShloMosaic.Lib.Pointwise
public import Idealize.ShloMosaic.Lib.Pipeline.ValueKit

/-! The output projection, entry by entry, over the extended reals: what the reference's composed term reads at an entry. -/

@[expose] public section
set_option maxRecDepth 16384

noncomputable section
open Idealize.ShloMosaic Idealize.ShloMosaic.TcCoe Idealize.SL.Sem
namespace Cert.OutSpec
open Cert.OutprojReferenceIdeal (S4x4096x2048 S4x4096x512 S2x2048 S2048x2048)

/-- Row `r` of the flattened input. -/
def X (A : FVec Ideal S4x4096x2048 .f32) (r : Fin 16384) (k : Fin 2048) : EReal :=
  A (ix3 ⟨r.val / 4096, by omega⟩ ⟨r.val % 4096, by omega⟩ k)

/-- Row `r` of a flattened mixer output. -/
def Y {e : FTy} (A : FVec Ideal S4x4096x512 e) (r : Fin 16384) (k : Fin 512) : EReal :=
  A (ix3 ⟨r.val / 4096, by omega⟩ ⟨r.val % 4096, by omega⟩ k)

/-- A row of 512 normalised by its root mean square, times its gain. -/
def N (y g : Fin 512 → EReal) (k : Fin 512) : EReal :=
  y k * Ideal.rsqrt (Ideal.div (∑ x : Fin 512, y x * y x) (Ideal.ofBits .f32 0x44000000#32) + Ideal.ofBits .f32 0x358637BD#32) * g k

/-- One group's share of the product: 512 rows of the weight from row `o` on. -/
def part (y : Fin 512 → EReal) (w : FVec Ideal S2048x2048 .bf16) (o : ℕ) (ho : o + 512 ≤ 2048) (k : Fin 2048) : EReal :=
  ∑ x : Fin 512, y x * w (ix2 ⟨o + x.val, by omega⟩ k)

/-- A group's gains. -/
def gain (A : FVec Ideal S2x2048 .f32) (o : ℕ) (ho : o + 512 ≤ 2048) (k : Fin 512) : EReal := A (ix2 1 ⟨o + k.val, by omega⟩)

/-- The result's entry. -/
def out (A0 : FVec Ideal S4x4096x2048 .f32) (A1 A2 : FVec Ideal S4x4096x512 .bf16) (A3 A4 : FVec Ideal S4x4096x512 .f32)
    (A5 : FVec Ideal S2x2048 .f32) (w : FVec Ideal S2048x2048 .bf16) (r : Fin 16384) (k : Fin 2048) : EReal :=
  X A0 r k + (part (Y A1 r) w 0 (by omega) k + part (Y A2 r) w 512 (by omega) k
    + part (N (Y A3 r) (gain A5 1024 (by omega))) w 1024 (by omega) k + part (N (Y A4 r) (gain A5 1536 (by omega))) w 1536 (by omega) k)

/-- A sum over 2048 in four parts. -/
theorem sum_four (f : Fin 2048 → EReal) : ∑ l : Fin 2048, f l
    = (∑ x : Fin 512, f ⟨0 + x.val, by omega⟩) + (∑ x : Fin 512, f ⟨512 + x.val, by omega⟩) + (∑ x : Fin 512, f ⟨1024 + x.val, by omega⟩)
      + ∑ x : Fin 512, f ⟨1536 + x.val, by omega⟩ := by
  refine (Fin.sum_univ_add (a := 1536) (b := 512) f).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  exact Finset.sum_congr rfl fun x _ => congrArg f (Fin.ext (Nat.zero_add _).symm)

end Cert.OutSpec

namespace Cert.OutprojReferenceIdeal.At
open Cert.OutprojReferenceIdeal Cert.OutprojReferenceIdeal.Gen Cert.OutSpec

/-- Four groups side by side, read at a column of group `g`. -/
theorem cat_at (p0 p1 p2 p3 : FVec Ideal S16384x512 .f32) (r : Fin 16384) (g : Fin 4) (k : Fin 512) :
    concatenate S16384x2048 1 [⟨S16384x512, p0⟩, ⟨S16384x512, p1⟩, ⟨S16384x512, p2⟩, ⟨S16384x512, p3⟩]
      concatenates_S16384x512_S16384x512_S16384x512_S16384x512_S16384x2048_d1 (ix2 r (⟨512 * g.val + k.val, by omega⟩ : Fin 2048))
      = (![p0, p1, p2, p3] g) (ix2 r k) := by
  refine concatenate_ofFn_apply (t := S16384x2048) (s₁ := S16384x512) 1 ![p0, p1, p2, p3] _ rfl 512 rfl
    (ix2 r (⟨512 * g.val + k.val, by omega⟩ : Fin 2048)) g ?_ (ix2 r k) ?_ ?_
  · show (512 * g.val + k.val) / 512 = g.val
    omega
  · show k.val = (512 * g.val + k.val) % 512
    omega
  · intro b hb
    match b, hb with
    | ⟨0, _⟩, _ => rfl
    | ⟨1, _⟩, hb => exact absurd rfl hb

/-- A flattened mixer output. -/
def yT {e : FTy} (A : FVec Ideal S4x4096x512 e) : FVec Ideal S16384x512 e := shapeCast _ A shapeCasts_S4x4096x512_S16384x512

/-- Its rows normalised, times their gains, as the reference composes them. -/
def nT (y : FVec Ideal S16384x512 .f32) (g : FVec Ideal S512 .f32) : FVec Ideal S16384x512 .f32 :=
  mulf (mulf y (broadcastInDim S16384x512 ![0, 1] bcast_S16384x1_S16384x512_0_1 (Host.rsqrt (addf (Host.divf (broadcastInDim S16384x1 ![0] bcast_S16384_S16384x1_0
    (Host.reduceAdd (mulf y y) (constant S_ .f32 0x00000000#32) reducesTo_S16384x512_S16384_d1 h_S_)) (broadcastInDim S16384x1 ![] bcast_S_S16384x1 (constant S_ .f32 0x44000000#32)))
    (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- A group's gains, cut out of the layer's. -/
def gT (A : FVec Ideal S2x2048 .f32) (o : ℕ) (h : S2048.Slices ![o] S512) : FVec Ideal S512 .f32 :=
  extractStridedSlice S512 ![o] (shapeCast _ (extractStridedSlice S1x2048 ![1, 0] A slices_S2x2048_S1x2048_1_0) shapeCasts_S1x2048_S2048) h

theorem yT_at {e : FTy} (A : FVec Ideal S4x4096x512 e) (r : Fin 16384) (k : Fin 512) : yT A (ix2 r k) = Y A r k := by
  unfold Y
  pointwise [yT]

theorem nT_at (y : FVec Ideal S16384x512 .f32) (g : FVec Ideal S512 .f32) (r : Fin 16384) (k : Fin 512) :
    nT y g (ix2 r k) = N (fun x => y (ix2 r x)) (fun x => g (ix1 x)) k := by
  unfold N
  pointwise [nT]

theorem gT_at (A : FVec Ideal S2x2048 .f32) (o : ℕ) (h : S2048.Slices ![o] S512) (ho : o + 512 ≤ 2048) (k : Fin 512) :
    gT A o h (ix1 k) = gain A o ho k := by
  unfold gain
  pointwise [gT]

theorem oT_at (x : FVec Ideal S4x4096x2048 .f32) (c : FVec Ideal S16384x2048 .f32) (w : FVec Ideal S2048x2048 .bf16) (r : Fin 16384) (k : Fin 2048) :
    addf (shapeCast _ x shapeCasts_S4x4096x2048_S16384x2048)
      (Host.dotGeneral dot_S16384x2048_S2048x2048_S16384x2048_1_0_0_1_n_n none c (extf .f32 w bitsLt_bf16_f32)) (ix2 r k)
      = X x r k + ∑ l : Fin 2048, c (ix2 r l) * w (ix2 l k) := by
  unfold X
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = (fun i : S16384x2048.Idx => out (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Cert.OutprojReferenceIdeal.Value.run m ρ)
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  generalize m ((c.tc : Thread nD τ).loc main_arg4) = A4
  generalize m ((c.tc : Thread nD τ).loc main_arg5) = A5
  generalize m ((c.tc : Thread nD τ).loc main_arg6) = A6
  funext i
  idx_vars i
  have key : ∀ (g : Fin 4) (k : Fin 512), _ = _ := cat_at (extf .f32 (yT A1) bitsLt_bf16_f32) (extf .f32 (yT A2) bitsLt_bf16_f32)
    (nT (yT A3) (gT A5 1024 slices_S2048_S512_1024)) (nT (yT A4) (gT A5 1536 slices_S2048_S512_1536)) i0
  refine (oT_at A0 (concatenate S16384x2048 1 [⟨S16384x512, extf .f32 (yT A1) bitsLt_bf16_f32⟩, ⟨S16384x512, extf .f32 (yT A2) bitsLt_bf16_f32⟩,
    ⟨S16384x512, nT (yT A3) (gT A5 1024 slices_S2048_S512_1024)⟩, ⟨S16384x512, nT (yT A4) (gT A5 1536 slices_S2048_S512_1536)⟩]
    concatenates_S16384x512_S16384x512_S16384x512_S16384x512_S16384x2048_d1) A6 i0 i1).trans ?_
  rw [sum_four]
  show _ = out A0 A1 A2 A3 A4 A5 A6 i0 i1
  unfold out part
  refine congrArg (X A0 i0 i1 + ·) (congrArg₂ (· + ·) (congrArg₂ (· + ·) (congrArg₂ (· + ·) ?_ ?_) ?_) ?_) <;>
    refine Finset.sum_congr rfl fun x _ => congrArg (· * _) ?_
  · exact (key 0 x).trans (yT_at A1 i0 x)
  · exact (key 1 x).trans (yT_at A2 i0 x)
  · refine ((key 2 x).trans (nT_at _ _ i0 x)).trans ?_
    simp only [yT_at, gT_at A5 1024 _ (by omega)]
  · refine ((key 3 x).trans (nT_at _ _ i0 x)).trans ?_
    simp only [yT_at, gT_at A5 1536 _ (by omega)]

end Cert.OutprojReferenceIdeal.At
-- ==== Proof.Outproj.Run.lean ====
module

public import proofs.«01_k».proof.Proof.Gen.OutprojIdeal.Value
public import proofs.«01_k».proof.Proof.Outproj.Spec
public import Idealize.ShloMosaic.Lib.VecWindow

/-! The output projection's kernel: what one block of rows computes, and what the result array holds after the run. -/

@[expose] public section
set_option maxRecDepth 16384

noncomputable section
open Idealize.ShloMosaic Idealize.ShloMosaic.TcCoe Idealize.SL.Sem
open Idealize.ShloMosaic.Pipeline (Dat)
namespace Cert.OutprojIdeal.Run
open Cert.OutprojIdeal Cert.OutprojIdeal.Gen Cert.OutSpec
variable (m : (ℓ : Loc nD τ sig) → Buf (Elt Ideal) ℓ)

theorem pay2_at (y : FVec Ideal S512x512 .f32) (g : FVec Ideal S1x512 .f32) (r k : Fin 512) :
    k0_pay2 (F := Ideal) y g (ix2 r k) = N (fun x => y (ix2 r x)) (fun x => g (ix2 0 x)) k := by
  unfold N
  pointwise [k0_pay2]

theorem pay3_at (y : FVec Ideal S512x512 .f32) (g : FVec Ideal S1x512 .f32) (r k : Fin 512) :
    k0_pay3 (F := Ideal) y g (ix2 r k) = N (fun x => y (ix2 r x)) (fun x => g (ix2 0 x)) k := by
  unfold N
  pointwise [k0_pay3]

theorem pay1_at (yc yd ya yb : FVec Ideal S512x512 .bf16) (wa wb wc wd : FVec Ideal S512x2048 .bf16) (x : FVec Ideal S512x2048 .f32)
    (r : Fin 512) (k : Fin 2048) : k0_pay1 (F := Ideal) yc yd (k0_pay4 ya wa) yb wb wc wd x (ix2 r k)
      = x (ix2 r k) + ((∑ l : Fin 512, ya (ix2 r l) * wa (ix2 l k)) + (∑ l : Fin 512, yb (ix2 r l) * wb (ix2 l k))
        + (∑ l : Fin 512, yc (ix2 r l) * wc (ix2 l k)) + ∑ l : Fin 512, yd (ix2 r l) * wd (ix2 l k)) := by
  pointwise [k0_pay1, k0_pay4]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

theorem row_lt (t : Fin cfg0.N) (y : Fin 512) : t.val * 512 + y.val < 16384 := by
  have h : t.val < 32 := lt_of_lt_of_eq t.isLt N_0
  omega

theorem b0 (c : Dev nD) (t : Fin cfg0.N) (y : Fin 512) (k : Fin 2048) :
    iblk m c 0 t (ix2 y k) = X (m ((c.tc : Thread nD τ).loc main_arg0)) ⟨t.val * 512 + y.val, row_lt t y⟩ k := by
  unfold X
  blk_point [iblk, V, idx0 t]
theorem b1 (c : Dev nD) (t : Fin cfg0.N) (y k : Fin 512) :
    iblk m c 1 t (ix2 y k) = Y (e := .bf16) (m ((c.tc : Thread nD τ).loc main_arg1)) ⟨t.val * 512 + y.val, row_lt t y⟩ k := by
  unfold Y
  blk_point [iblk, V, idx1 t]
theorem b2 (c : Dev nD) (t : Fin cfg0.N) (y k : Fin 512) :
    iblk m c 2 t (ix2 y k) = Y (e := .bf16) (m ((c.tc : Thread nD τ).loc main_arg2)) ⟨t.val * 512 + y.val, row_lt t y⟩ k := by
  unfold Y
  blk_point [iblk, V, idx2 t]
theorem b3 (c : Dev nD) (t : Fin cfg0.N) (y k : Fin 512) :
    iblk m c 3 t (ix2 y k) = Y (e := .f32) (m ((c.tc : Thread nD τ).loc main_arg3)) ⟨t.val * 512 + y.val, row_lt t y⟩ k := by
  unfold Y
  blk_point [iblk, V, idx3 t]
theorem b4 (c : Dev nD) (t : Fin cfg0.N) (y k : Fin 512) :
    iblk m c 4 t (ix2 y k) = Y (e := .f32) (m ((c.tc : Thread nD τ).loc main_arg4)) ⟨t.val * 512 + y.val, row_lt t y⟩ k := by
  unfold Y
  blk_point [iblk, V, idx4 t]
theorem b5 (c : Dev nD) (t : Fin cfg0.N) (k : Fin 512) :
    iblk m c 5 t (ix2 0 k) = gain (m ((c.tc : Thread nD τ).loc main_arg5)) 1024 (by omega) k := by
  unfold gain
  blk_point [iblk, V, idx5 t]
theorem b6 (c : Dev nD) (t : Fin cfg0.N) (k : Fin 512) :
    iblk m c 6 t (ix2 0 k) = gain (m ((c.tc : Thread nD τ).loc main_arg5)) 1536 (by omega) k := by
  unfold gain
  blk_point [iblk, V, idx6 t]
theorem b7 (c : Dev nD) (t : Fin cfg0.N) (y k : Fin 2048) :
    iblk m c 7 t (ix2 y k) = m ((c.tc : Thread nD τ).loc main_arg6) (ix2 y k) := by
  blk_point [iblk, V, idx7 t]

/-- The result array. -/
abbrev G (c : Dev nD) : FVec Ideal S16384x2048 .f32 := fun i => out (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (i 0) (i 1)

theorem hw (x7 : FVec Ideal S2048x2048 .bf16) (o : ℕ) (inb : ∀ a, (![o, 0] : Fin 2 → ℕ) a + S512x2048.size a ≤ S2048x2048.size a)
    (l : Fin 512) (k : Fin 2048) (h : o + l.val < 2048) :
    View.ld (S := S2048x2048) (Val := Elt Ideal) (e' := .bf16) x7 (Rect.unit (s := S2048x2048) ![o, 0] S512x2048.size inb) (ix2 l k)
      = x7 (ix2 ⟨o + l.val, h⟩ k) :=
  View.ld_unit_apply_of (S := S2048x2048) (Val := Elt Ideal) (e := .bf16) x7 (![o, 0] : Fin 2 → ℕ) S512x2048.size inb (ix2 l k) (ix2 ⟨o + l.val, h⟩ k) (by
    intro a
    match a with
    | ⟨0, _⟩ => rfl
    | ⟨1, _⟩ => exact (Nat.zero_add _).symm)

theorem l1 (v : FVec Ideal S512x512 .bf16) : View.ld (Val := Elt Ideal) (e' := .bf16) v r0_0 = v := by rw [View.ld_unit_zero (by decide)]
theorem l2 (v : FVec Ideal S512x512 .f32) : View.ld (Val := Elt Ideal) (e' := .f32) v r0_0 = v := by rw [View.ld_unit_zero (by decide)]
theorem l3 (v : FVec Ideal S1x512 .f32) : View.ld (Val := Elt Ideal) (e' := .f32) v r0_1 = v := by rw [View.ld_unit_zero (by decide)]
theorem l4 (v : FVec Ideal S512x2048 .f32) : View.ld (Val := Elt Ideal) (e' := .f32) v r0_6 = v := by rw [View.ld_unit_zero (by decide)]

theorem l5 (p : FVec Ideal S512x2048 .f32) : View.canon (Val := Elt Ideal) [(⟨r0_6, p⟩ : View.Piece (Elt Ideal) S512x2048 .f32)] = p := by
  rw [View.canon_cons_unit_zero (by decide)]

/-- What the body leaves of its blocks, entry by entry. -/
theorem out_at (x0 : FVec Ideal S512x2048 .f32) (x1 x2 : FVec Ideal S512x512 .bf16) (x3 x4 : FVec Ideal S512x512 .f32)
    (x5 x6 : FVec Ideal S1x512 .f32) (x7 : FVec Ideal S2048x2048 .bf16) (r : Fin 512) (k : Fin 2048) :
    out0_8 (F := Ideal) x0 x1 x2 x3 x4 x5 x6 x7 (ix2 r k)
      = x0 (ix2 r k) + (part (fun l => x1 (ix2 r l)) x7 0 (by omega) k + part (fun l => x2 (ix2 r l)) x7 512 (by omega) k
        + part (N (fun l => x3 (ix2 r l)) (fun l => x5 (ix2 0 l))) x7 1024 (by omega) k
        + part (N (fun l => x4 (ix2 r l)) (fun l => x6 (ix2 0 l))) x7 1536 (by omega) k) := by
  unfold out0_8
  rw [l5, l1, l1, l2, l2, l3, l3, l4]
  refine (pay1_at _ _ _ _ _ _ _ _ _ r k).trans ?_
  unfold part
  refine congrArg (x0 (ix2 r k) + ·) (congrArg₂ (· + ·) (congrArg₂ (· + ·) (congrArg₂ (· + ·) ?_ ?_) ?_) ?_) <;>
    refine Finset.sum_congr rfl fun l _ => congrArg₂ (· * ·) ?_ (hw x7 _ _ l k (by omega))
  · rfl
  · rfl
  · exact pay2_at x3 x5 r l
  · exact pay3_at x4 x6 r l

/-- One point's block of the result. -/
theorem block_at (c : Dev nD) (t : Fin cfg0.N) (r : Fin 512) (k : Fin 2048) :
    out0_8 (iblk m c 0 t) (iblk m c 1 t) (iblk m c 2 t) (iblk m c 3 t) (iblk m c 4 t) (iblk m c 5 t) (iblk m c 6 t) (iblk m c 7 t) (ix2 r k)
      = G m c (ix2 ⟨t.val * 512 + r.val, row_lt t r⟩ k) := by
  refine (out_at _ _ _ _ _ _ _ _ r k).trans ?_
  rw [b0 m c t r k, funext (b1 m c t r), funext (b2 m c t r), funext (b3 m c t r), funext (b4 m c t r), funext (b5 m c t), funext (b6 m c t)]
  show _ = out _ _ _ _ _ _ _ _ _
  unfold out part
  refine congrArg (X _ _ k + ·) (congrArg₂ (· + ·) (congrArg₂ (· + ·) (congrArg₂ (· + ·) ?_ ?_) ?_) ?_) <;>
    exact Finset.sum_congr rfl fun l _ => congrArg (_ * ·) (b7 m c t _ k)

theorem final (c : Dev nD) : (dats m 0 c).arrAt 8 (cfgs 0).N = G m c := by
  refine (dats m 0 c).arrAt_eq_of_covers 8 _ (by decide +kernel) fun t hf y => ?_
  blk_simp
  rw [after0_8]
  idx_vars y
  refine (block_at m c t y0 y1).trans ?_
  have e : (((View.whole main_v12).slice (win0_8.rect t)).emb (ix2 y0 y1) : S16384x2048.Idx)
      = ix2 ⟨t.val * 512 + y0.val, row_lt t y0⟩ y1 := by
    blk_ext [idx8 t]
  exact (congrArg (G m c) e).symm

/-- The run: the result array holds `G`, the arguments are as launched. -/
theorem run (ρ : Dev nD → PrngReg) : θ_run defs (onTc (τ := τ) (main (F := Ideal))) ⟨m, fun _ => 0, ρ⟩ fun r => ∀ c : Dev nD,
      r.2.mem ((c.tc : Thread nD τ).loc main_v12) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1).trans (final m c), (h c).2⟩) (Cert.OutprojIdeal.Value.run_blocks m ρ)

end Cert.OutprojIdeal.Run
-- ==== Proof.lean ====
module

public import proofs.«01_k».proof.Defs
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.InprojReferenceIdeal.Run
public import proofs.«01_k».proof.Proof.Gen.Outproj.Frame
public import proofs.«01_k».proof.Proof.Gen.Lru.Frame
public import proofs.«01_k».proof.Proof.Gen.LruIdeal.Frame
public import proofs.«01_k».proof.Proof.Gen.OutprojIdeal.Frame
public import proofs.«01_k».proof.Proof.Gen.Kernel
public import proofs.«01_k».proof.Proof.Gen.Reference
public import proofs.«01_k».proof.Proof.Ffn.Run
public import proofs.«01_k».proof.Proof.Gen.Inproj
public import proofs.«01_k».proof.Proof.Gen.Cast
public import proofs.«01_k».proof.Proof.Cast.Run
public import proofs.«01_k».proof.Proof.Split.Value
public import proofs.«01_k».proof.Proof.Inproj.Value
public import proofs.«01_k».proof.Proof.Outproj.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem algebraic_FfnIdeal_FfnReferenceIdeal : algebraic_FfnIdeal_FfnReferenceIdeal := by
  intro m ρ m' ρ' _ hagree
  refine ⟨_, Cert.FfnIdeal.Run.run m ρ, ?_⟩
  refine (θ_run Cert.FfnReferenceIdeal.defs _ _).mono (fun _ h c => ⟨?_, (h c).2⟩) (Cert.FfnReferenceIdeal.At.run m' ρ')
  rw [(h c).1]
  obtain ⟨h0, h1, h2, h3, h4⟩ := hagree c
  rw [h0, h1, h2, h3, h4]

/-- The weight split's body is one text in both programs. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are its definitions with the pipeline's. -/
theorem defs_eq : Cert.Kernel.defs (F := Bits) = Cert.KernelIdeal.defs (F := Bits) :=
  congrArg (Pipeline.defs Cert.KernelIdeal.pcfgs) defs₀_eq

theorem quiescent_Kernel : quiescent_Kernel := by
  intro m ρ _
  rw [defs_eq]
  exact (θ_run Cert.KernelIdeal.defs _ _).mono (fun _ h => h) (Cert.KernelIdeal.Split.frame (F := Bits) m ρ)

theorem quiescent_Reference : quiescent_Reference := fun m ρ _ =>
  (θ_run Cert.ReferenceIdeal.defs _ _).mono (fun r h => ⟨fun c => (h c).2.2, sem_eq_zero_of_no_sems (by decide) r.2⟩)
    (Cert.ReferenceIdeal.Split.run (F := Bits) m ρ)

theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Split.run (F := Ideal) m ρ)

theorem bitexact_Kernel_Reference : bitexact_Kernel_Reference := by
  intro m ρ m' ρ' _ hagree
  rw [defs_eq]
  refine ⟨_, _, (θ_run Cert.KernelIdeal.defs _ _).mono (fun _ h => h) (Cert.KernelIdeal.Split.run (F := Bits) m ρ), ?_⟩
  refine (θ_run Cert.ReferenceIdeal.defs _ _).mono (fun _ h c => ⟨?_, ?_, (h c).2.2⟩) (Cert.ReferenceIdeal.Split.run (F := Bits) m' ρ')
  · refine (h c).1.trans ?_
    rw [show m' ((c.tc : Thread Cert.ReferenceIdeal.nD Cert.ReferenceIdeal.τ).loc Cert.ReferenceIdeal.main_arg0) = _ from hagree c]
  · refine (h c).2.1.trans ?_
    rw [show m' ((c.tc : Thread Cert.ReferenceIdeal.nD Cert.ReferenceIdeal.τ).loc Cert.ReferenceIdeal.main_arg0) = _ from hagree c]

theorem algebraic_KernelIdeal_ReferenceIdeal : algebraic_KernelIdeal_ReferenceIdeal := by
  intro m ρ m' ρ' _ hagree
  refine ⟨_, _, Cert.KernelIdeal.Split.run (F := Ideal) m ρ, ?_⟩
  refine (θ_run Cert.ReferenceIdeal.defs _ _).mono (fun _ h c => ⟨?_, ?_, (h c).2.2⟩) (Cert.ReferenceIdeal.Split.run (F := Ideal) m' ρ')
  · rw [(h c).1, hagree c]
  · rw [(h c).2.1, hagree c]

/-- The input projection's body is one text in both programs. -/
theorem inproj_defs₀_eq : Cert.Inproj.defs₀ (F := Bits) = Cert.InprojIdeal.defs₀ (F := Bits) := by
  unfold Cert.Inproj.defs₀ Cert.InprojIdeal.defs₀
  refine congrArg Defs.onTc ?_
  funext l a
  match l, a with
  | 0, (t, s) => rfl
  | ⟨_ + 1, h⟩, _ => exact absurd h (Nat.not_lt.2 (Nat.le_add_left _ _))

/-- So are its definitions with the pipeline's. -/
theorem inproj_defs_eq : Cert.Inproj.defs (F := Bits) = Cert.InprojIdeal.defs (F := Bits) :=
  congrArg (Pipeline.defs Cert.InprojIdeal.pcfgs) inproj_defs₀_eq

theorem quiescent_Inproj : quiescent_Inproj := by
  intro m ρ _
  rw [inproj_defs_eq]
  exact (θ_run Cert.InprojIdeal.defs _ _).mono (fun _ h => h) (Cert.InprojIdeal.Proj.frame (F := Bits) m ρ)

theorem quiescent_InprojReferenceIdeal : quiescent_InprojReferenceIdeal := fun m ρ _ =>
  (θ_run Cert.InprojReferenceIdeal.defs _ _).mono (fun r h => ⟨fun c => (h c).2.2.2.2, sem_eq_zero_of_no_sems (by decide) r.2⟩)
    (Cert.InprojReferenceIdeal.At.run m ρ)

theorem algebraic_InprojIdeal_InprojReferenceIdeal : algebraic_InprojIdeal_InprojReferenceIdeal := by
  intro m ρ m' ρ' _ hagree
  refine ⟨_, _, _, _, Cert.InprojIdeal.Proj.run m ρ, ?_⟩
  refine (θ_run Cert.InprojReferenceIdeal.defs _ _).mono (fun _ h c => ⟨?_, ?_, ?_, ?_, (h c).2.2.2.2⟩) (Cert.InprojReferenceIdeal.At.run m' ρ')
  · obtain ⟨h0, h1, h2, h3⟩ := hagree c
    rw [(h c).1, h0, h1, h2]
  · obtain ⟨h0, h1, h2, h3⟩ := hagree c
    rw [(h c).2.1, h0, h1, h2]
  · obtain ⟨h0, h1, h2, h3⟩ := hagree c
    rw [(h c).2.2.1, h0, h1, h3]
  · obtain ⟨h0, h1, h2, h3⟩ := hagree c
    rw [(h c).2.2.2.1, h0, h1, h3]

theorem quiescent_OutprojReferenceIdeal : quiescent_OutprojReferenceIdeal := fun m ρ _ =>
  (θ_run Cert.OutprojReferenceIdeal.defs _ _).mono (fun r h => ⟨fun c => (h c).2, sem_eq_zero_of_no_sems (by decide) r.2⟩)
    (Cert.OutprojReferenceIdeal.At.run m ρ)

theorem algebraic_OutprojIdeal_OutprojReferenceIdeal : algebraic_OutprojIdeal_OutprojReferenceIdeal := by
  intro m ρ m' ρ' _ hagree
  refine ⟨_, Cert.OutprojIdeal.Run.run m ρ, ?_⟩
  refine (θ_run Cert.OutprojReferenceIdeal.defs _ _).mono (fun _ h c => ⟨?_, (h c).2⟩) (Cert.OutprojReferenceIdeal.At.run m' ρ')
  rw [(h c).1]
  obtain ⟨h0, h1, h2, h3, h4, h5, h6⟩ := hagree c
  rw [h0, h1, h2, h3, h4, h5, h6]

/-- The cast's body is one text in both programs. -/
theorem cast_defs₀_eq : Cert.Cast.defs₀ (F := Bits) = Cert.CastIdeal.defs₀ (F := Bits) := by
  unfold Cert.Cast.defs₀ Cert.CastIdeal.defs₀
  refine congrArg Defs.onTc ?_
  funext l a
  match l, a with
  | 0, (t, s) => rfl
  | ⟨_ + 1, h⟩, _ => exact absurd h (Nat.not_lt.2 (Nat.le_add_left _ _))

/-- So are its definitions with the pipeline's. -/
theorem cast_defs_eq : Cert.Cast.defs (F := Bits) = Cert.CastIdeal.defs (F := Bits) :=
  congrArg (Pipeline.defs Cert.CastIdeal.pcfgs) cast_defs₀_eq

theorem quiescent_Cast : quiescent_Cast := by
  intro m ρ _
  rw [cast_defs_eq]
  exact (θ_run Cert.CastIdeal.defs _ _).mono (fun _ h => h) (Cert.CastIdeal.Gen.frame (F := Bits) m ρ)

theorem quiescent_CastReference : quiescent_CastReference := fun m ρ _ =>
  (θ_run Cert.CastReference.defs _ _).mono (fun r h => ⟨fun c => (h c).2, sem_eq_zero_of_no_sems (by decide) r.2⟩)
    (Cert.CastReference.Run.run (F := Bits) m ρ)

theorem quiescent_CastReferenceIdeal : quiescent_CastReferenceIdeal := fun m ρ _ =>
  (θ_run Cert.CastReferenceIdeal.defs _ _).mono (fun r h => ⟨fun c => (h c).2, sem_eq_zero_of_no_sems (by decide) r.2⟩)
    (Cert.CastReferenceIdeal.Run.run (F := Ideal) m ρ)

theorem bitexact_Cast_CastReference : bitexact_Cast_CastReference := by
  intro m ρ m' ρ' _ hagree
  rw [cast_defs_eq]
  refine ⟨_, (θ_run Cert.CastIdeal.defs _ _).mono (fun _ h => h) (Cert.CastIdeal.Run.run (F := Bits) m ρ), ?_⟩
  refine (θ_run Cert.CastReference.defs _ _).mono (fun _ h c => ⟨?_, (h c).2⟩) (Cert.CastReference.Run.run (F := Bits) m' ρ')
  refine (h c).1.trans ?_
  rw [show m' ((c.tc : Thread Cert.CastReference.nD Cert.CastReference.τ).loc Cert.CastReference.main_arg0) = _ from hagree c]

theorem algebraic_CastIdeal_CastReferenceIdeal : algebraic_CastIdeal_CastReferenceIdeal := by
  intro m ρ m' ρ' _ hagree
  refine ⟨_, Cert.CastIdeal.Run.run (F := Ideal) m ρ, ?_⟩
  refine (θ_run Cert.CastReferenceIdeal.defs _ _).mono (fun _ h c => ⟨?_, (h c).2⟩) (Cert.CastReferenceIdeal.Run.run (F := Ideal) m' ρ')
  rw [(h c).1, hagree c]

theorem claim : Cert.Claim := ⟨Cert.Kernel.Gen.facts, Cert.KernelIdeal.Gen.facts, Cert.Reference.Gen.facts, Cert.ReferenceIdeal.Gen.facts,
  Cert.Ffn.Gen.facts, Cert.FfnIdeal.Gen.facts, Cert.FfnReferenceIdeal.Gen.facts,
  Cert.Inproj.Gen.facts, Cert.InprojIdeal.Gen.facts, Cert.InprojReferenceIdeal.Gen.facts,
  Cert.Outproj.Gen.facts, Cert.OutprojIdeal.Gen.facts, Cert.OutprojReferenceIdeal.Gen.facts,
  Cert.Lru.Gen.facts, Cert.LruIdeal.Gen.facts,
  Cert.Cast.Gen.facts, Cert.CastIdeal.Gen.facts, Cert.CastReference.Gen.facts, Cert.CastReferenceIdeal.Gen.facts,
  quiescent_Kernel, fun m ρ _ => Cert.KernelIdeal.Split.frame m ρ, quiescent_Reference, quiescent_ReferenceIdeal,
  fun m ρ _ => Cert.Ffn.Gen.frame m ρ, fun m ρ _ => Cert.FfnIdeal.Gen.frame m ρ, quiescent_FfnReferenceIdeal,
  quiescent_Inproj, fun m ρ _ => Cert.InprojIdeal.Proj.frame m ρ, quiescent_InprojReferenceIdeal,
  fun m ρ _ => Cert.Outproj.Gen.frame m ρ, fun m ρ _ => Cert.OutprojIdeal.Gen.frame m ρ, quiescent_OutprojReferenceIdeal,
  fun m ρ _ => Cert.Lru.Gen.frame m ρ, fun m ρ _ => Cert.LruIdeal.Gen.frame m ρ,
  quiescent_Cast, fun m ρ _ => Cert.CastIdeal.Gen.frame m ρ, quiescent_CastReference, quiescent_CastReferenceIdeal,
  (trivial : preserves_Kernel_KernelIdeal), bitexact_Kernel_Reference, algebraic_KernelIdeal_ReferenceIdeal,
  (trivial : preserves_Ffn_FfnIdeal), algebraic_FfnIdeal_FfnReferenceIdeal,
  (trivial : preserves_Inproj_InprojIdeal), algebraic_InprojIdeal_InprojReferenceIdeal,
  (trivial : preserves_Outproj_OutprojIdeal), algebraic_OutprojIdeal_OutprojReferenceIdeal,
  (trivial : preserves_Lru_LruIdeal),
  (trivial : preserves_Cast_CastIdeal), bitexact_Cast_CastReference, algebraic_CastIdeal_CastReferenceIdeal⟩

end Cert.Proof

end
